-- ==== Defs.lean ====
def Pre_Kernel [hPre_exchanges_Kernel : Cert.Pre_exchanges_Kernel.Facts] (m : (ℓ : Loc Cert.Kernel.nD Cert.Kernel.τ Cert.Kernel.sig) → Buf (Elt Bits) ℓ) : Prop :=
  ∀ c : Dev Cert.Kernel.nD,
    (Cert.Pre_exchanges_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_exchanges_Kernel : Cert.Pre_exchanges_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_exchanges_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exchanges_ReferenceIdeal [hPre_exchanges_ReferenceIdeal : Cert.Pre_exchanges_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exchanges_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_exchanges_Kernel : Cert.Pre_exchanges_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_exchanges_Kernel : Cert.Pre_exchanges_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_exchanges_ReferenceIdeal [hReferenceIdeal : Cert.ReferenceIdeal.Facts] [hPre_exchanges_ReferenceIdeal : Cert.Pre_exchanges_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exchanges_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_exchanges_Kernel : Cert.Pre_exchanges_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_exchanges_Kernel : Cert.Pre_exchanges_Kernel.Facts) (hPre_stays_Kernel : Cert.Pre_stays_Kernel.Facts) (hPre_exchanges_ReferenceIdeal : Cert.Pre_exchanges_ReferenceIdeal.Facts) (hPre_stays_ReferenceIdeal : Cert.Pre_stays_ReferenceIdeal.Facts),
    quiescent_Kernel (hKernel := hKernel) (hPre_exchanges_Kernel := hPre_exchanges_Kernel)
    ∧ quiescent_Kernel_pre_stays_Kernel (hKernel := hKernel) (hPre_stays_Kernel := hPre_stays_Kernel)
    ∧ quiescent_KernelIdeal (hKernelIdeal := hKernelIdeal) (hPre_exchanges_Kernel := hPre_exchanges_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_exchanges_ReferenceIdeal (hReferenceIdeal := hReferenceIdeal) (hPre_exchanges_ReferenceIdeal := hPre_exchanges_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_exchanges_Kernel := hPre_exchanges_Kernel)
    ∧ algebraic_KernelIdeal_ReferenceIdeal_pre_stays_Kernel (hKernelIdeal := hKernelIdeal) (hReferenceIdeal := hReferenceIdeal) (hPre_stays_Kernel := hPre_stays_Kernel)
-- ==== Pre_exchanges_Kernel.lean ====
abbrev S1x512x512 : Shape := ⟨3, ![1, 512, 512]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x512x512 .bf16) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_exchanges_ReferenceIdeal.lean ====
abbrev S2x512x512 : Shape := ⟨3, ![2, 512, 512]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x512x512 .bf16) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_stays_Kernel.lean ====
abbrev S1x512x512 : Shape := ⟨3, ![1, 512, 512]⟩
abbrev S2 : Shape := ⟨1, ![2]⟩

class Facts : Prop where

variable [Facts]

def fn {F : FTy → Type} [FloatOps F] (main_arg0 : FVec F S1x512x512 .bf16) (main_arg1 : IVec S2 32) : IVec S2 1 :=
  let main_v0 : IVec S2 32 := iotaInDim S2 32 0
  let main_v1 : IVec S2 1 := cmpi .eq main_arg1 main_v0
  main_v1
-- ==== Pre_stays_ReferenceIdeal.lean ====
abbrev S2x512x512 : Shape := ⟨3, ![2, 512, 512]⟩
abbrev S2 : Shape := ⟨1, ![2]⟩

class Facts : Prop where

variable [Facts]

def fn {F : FTy → Type} [FloatOps F] (main_arg0 : FVec F S2x512x512 .bf16) (main_arg1 : IVec S2 32) : IVec S2 1 :=
  let main_v0 : IVec S2 32 := iotaInDim S2 32 0
  let main_v1 : IVec S2 1 := cmpi .eq main_arg1 main_v0
  main_v1
-- ==== Kernel.lean ====
abbrev S1x512x512 : Shape := ⟨3, ![1, 512, 512]⟩
abbrev S2 : Shape := ⟨1, ![2]⟩
abbrev S4 : Shape := ⟨1, ![4]⟩
abbrev S1 : Shape := ⟨1, ![1]⟩
abbrev S_ : Shape := ⟨0, ![]⟩
abbrev S1x128x512 : Shape := ⟨3, ![1, 128, 512]⟩
abbrev S128x512 : Shape := ⟨2, ![128, 512]⟩

abbrev nBuf : Space → Nat
  | .hbm => 3
  | .vmem => 3
  | .smem => 1
  | _ => 0

abbrev bufTy : (tb : Table) → Fin (tcTables nBuf tb) → BufTy
  | .hbm, ⟨0, _⟩ => ⟨S1x512x512, .bf16⟩
  | .hbm, ⟨1, _⟩ => ⟨S2, .i32⟩
  | .hbm, ⟨2, _⟩ => ⟨S1x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .smem, ⟨0, _⟩ => ⟨S2, .i32⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : Index := Scalar.indexCast v5
  ![v6.toNat]
def k0_dev1 (d0 : Dev nD) (v7 : BitVec 32) : Nat :=
  let c0_i32_5 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v15 : BitVec 32 := Scalar.muli v2 c2_i32_4
  let v16 : BitVec 32 := Scalar.addi c0_i32_5 v15
  let c1_i32_6 : BitVec 32 := 1#32
  let v17 : BitVec 32 := Scalar.muli v7 c1_i32_6
  let v18 : BitVec 32 := Scalar.addi v16 v17
  v18.toNat
def k0_cond2 (d0 : Dev nD) (v7 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 1 := Scalar.cmpi .ne v7 v5
  let v13 : BitVec 32 := Scalar.extui v12
  let c0_i32_2 : BitVec 32 := 0#32
  let v14 : BitVec 1 := Scalar.cmpi .ne v13 c0_i32_2
  v14

def k0_dev2 (d0 : Dev nD) (v7 : BitVec 32) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v24 : BitVec 32 := Scalar.muli v2 c2_i32_15
  let v25 : BitVec 32 := Scalar.addi c0_i32_16 v24
  let c1_i32_17 : BitVec 32 := 1#32
  let v26 : BitVec 32 := Scalar.muli v7 c1_i32_17
  let v27 : BitVec 32 := Scalar.addi v25 v26
  v27.toNat
def k0_dev3 (d0 : Dev nD) (v7 : BitVec 32) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v39 : BitVec 32 := Scalar.muli v2 c2_i32_31
  let v40 : BitVec 32 := Scalar.addi c0_i32_32 v39
  let c1_i32_33 : BitVec 32 := 1#32
  let v41 : BitVec 32 := Scalar.muli v7 c1_i32_33
  let v42 : BitVec 32 := Scalar.addi v40 v41
  v42.toNat
def k0_dev4 (d0 : Dev nD) (v7 : BitVec 32) : Nat :=
  let c0_i32_47 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_46 : BitVec 32 := 2#32
  let v54 : BitVec 32 := Scalar.muli v2 c2_i32_46
  let v55 : BitVec 32 := Scalar.addi c0_i32_47 v54
  let c1_i32_48 : BitVec 32 := 1#32
  let v56 : BitVec 32 := Scalar.muli v7 c1_i32_48
  let v57 : BitVec 32 := Scalar.addi v55 v56
  v57.toNat
def k0_dev5 (d0 : Dev nD) (v7 : BitVec 32) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v69 : BitVec 32 := Scalar.muli v2 c2_i32_60
  let v70 : BitVec 32 := Scalar.addi c0_i32_61 v69
  let c1_i32_62 : BitVec 32 := 1#32
  let v71 : BitVec 32 := Scalar.muli v7 c1_i32_62
  let v72 : BitVec 32 := Scalar.addi v70 v71
  v72.toNat

def k0_chk1 (d0 : Dev nD) (v7 : BitVec 32) : Prop :=
  (∀ (k0_h2 : k0_cond2 d0 v7 = 1#1), (k0_dev1 d0 v7) < nD) ∧
  (∀ (k0_h2 : k0_cond2 d0 v7 = 1#1), (k0_dev2 d0 v7) < nD) ∧
  (∀ (k0_h2 : k0_cond2 d0 v7 = 1#1), (k0_dev3 d0 v7) < nD) ∧
  (∀ (k0_h2 : k0_cond2 d0 v7 = 1#1), (k0_dev4 d0 v7) < nD) ∧
  (∀ (k0_h2 : k0_cond2 d0 v7 = 1#1), (k0_dev5 d0 v7) < nD)
theorem k0_dev1_lt : ∀ (d0 : Dev nD) (v7 : BitVec 32) (k0_hw1 : k0_chk1 d0 v7), ∀ (k0_h2 : k0_cond2 d0 v7 = 1#1), (k0_dev1 d0 v7) < nD := fun d0 v7 k0_hw1 k0_h2 => k0_hw1.1 k0_h2
theorem k0_dev2_lt : ∀ (d0 : Dev nD) (v7 : BitVec 32) (k0_hw1 : k0_chk1 d0 v7), ∀ (k0_h2 : k0_cond2 d0 v7 = 1#1), (k0_dev2 d0 v7) < nD := fun d0 v7 k0_hw1 k0_h2 => k0_hw1.2.1 k0_h2
theorem k0_dev3_lt : ∀ (d0 : Dev nD) (v7 : BitVec 32) (k0_hw1 : k0_chk1 d0 v7), ∀ (k0_h2 : k0_cond2 d0 v7 = 1#1), (k0_dev3 d0 v7) < nD := fun d0 v7 k0_hw1 k0_h2 => k0_hw1.2.2.1 k0_h2
theorem k0_dev4_lt : ∀ (d0 : Dev nD) (v7 : BitVec 32) (k0_hw1 : k0_chk1 d0 v7), ∀ (k0_h2 : k0_cond2 d0 v7 = 1#1), (k0_dev4 d0 v7) < nD := fun d0 v7 k0_hw1 k0_h2 => k0_hw1.2.2.2.1 k0_h2
theorem k0_dev5_lt : ∀ (d0 : Dev nD) (v7 : BitVec 32) (k0_hw1 : k0_chk1 d0 v7), ∀ (k0_h2 : k0_cond2 d0 v7 = 1#1), (k0_dev5 d0 v7) < nD := fun d0 v7 k0_hw1 k0_h2 => k0_hw1.2.2.2.2 k0_h2

abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .bf16⟩
  | .hbm, ⟨14, _⟩ => ⟨S2x512x512, .f32⟩
  | .hbm, ⟨15, _⟩ => ⟨S2x512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Chunks.lean ====
/-
# The four chunks of a block, and the device each device exchanges with

A device holds one block of `x`, of 1 × 512 × 512 elements, and works on it in four chunks of 128 rows. This module
names the chunks as rectangles of the block, says that they are disjoint and cover it, and says what a chunk holds
after the store into the send buffer and after the copy into the other device's result block. It also names the other
device and shows that the table words (1, 0) make the kernel address it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Permute

open Cert.KernelIdeal Cert.KernelIdeal.Gen

open Idealize.ShloMosaic
open Idealize.ShloMosaic.TcCoe
open Idealize.SL.Sem

variable {F : FTy → Type} [FloatOps F]

/-! ## The other device of a row of the mesh -/

set_option backward.proofsInPublic true in
/-- Device `c` is at row `c / 2`, column `c % 2` of the mesh; the other device of its row differs in the column. -/
def other (c : Dev nD) : Dev nD := ⟨2 * (c.val / 2) + (1 - c.val % 2), by have : c.val < 4 := c.isLt; show _ < 4; omega⟩

theorem other_other (c : Dev nD) : other (other c) = c := by revert c; decide

/-- The exchange of the two devices of every row, as a permutation of the devices. -/
def exchange : Dev nD ≃ Dev nD := ⟨other, other, other_other, other_other⟩

/-! ## The table word a device reads -/

/-- The table entry that device `c` reads: its own column. -/
def colIdx (c : Dev nD) : S2.Idx := fun a => ⟨0 + c.val % 2, by
  have : c.val % 2 < 2 := Nat.mod_lt _ (by decide)
  fin_cases a; show 0 + c.val % 2 < 2; omega⟩

/-- Device `c`'s copy of the table, in its memory at launch. -/
abbrev tableOf (m : (ℓ : Loc nD τ sig) → Buf (Elt F) ℓ) (c : Dev nD) : IVec S2 32 := m ((c : Thread nD τ).loc main_arg1)

/-- On every device the table sends its column to the other one. -/
def Exchanges (m : (ℓ : Loc nD τ sig) → Buf (Elt F) ℓ) : Prop :=
  ∀ c : Dev nD, tableOf m c (colIdx c) = BitVec.ofNat 32 (1 - c.val % 2)

/-- On every device the table sends its column to itself. -/
def Stays (m : (ℓ : Loc nD τ sig) → Buf (Elt F) ℓ) : Prop :=
  ∀ c : Dev nD, tableOf m c (colIdx c) = BitVec.ofNat 32 (c.val % 2)

/-- A word that names the other column passes the kernel's check: every device it computes is one of the mesh's. -/
theorem chk_other (c : Dev nD) (w : BitVec 32) (hw : w = BitVec.ofNat 32 (1 - c.val % 2)) : k0_chk1 c w := by
  subst hw; revert c; decide

/-- It makes the kernel take the branch that communicates. -/
theorem cond_other (c : Dev nD) (w : BitVec 32) (hw : w = BitVec.ofNat 32 (1 - c.val % 2)) : k0_cond2 c w = 1#1 := by
  subst hw; revert c; decide

/-- The device of the signal and of each copy is the other device of the row. -/
theorem dev1_other (c : Dev nD) (w : BitVec 32) (hw : w = BitVec.ofNat 32 (1 - c.val % 2)) : k0_dev1 c w = (other c).val := by
  subst hw; revert c; decide
theorem dev2_other (c : Dev nD) (w : BitVec 32) (hw : w = BitVec.ofNat 32 (1 - c.val % 2)) : k0_dev2 c w = (other c).val := by
  subst hw; revert c; decide
theorem dev3_other (c : Dev nD) (w : BitVec 32) (hw : w = BitVec.ofNat 32 (1 - c.val % 2)) : k0_dev3 c w = (other c).val := by
  subst hw; revert c; decide
theorem dev4_other (c : Dev nD) (w : BitVec 32) (hw : w = BitVec.ofNat 32 (1 - c.val % 2)) : k0_dev4 c w = (other c).val := by
  subst hw; revert c; decide
theorem dev5_other (c : Dev nD) (w : BitVec 32) (hw : w = BitVec.ofNat 32 (1 - c.val % 2)) : k0_dev5 c w = (other c).val := by
  subst hw; revert c; decide

/-- A word that names the device's own column passes the check and does not take the branch that communicates. -/
theorem chk_self (c : Dev nD) (w : BitVec 32) (hw : w = BitVec.ofNat 32 (c.val % 2)) : k0_chk1 c w := by
  subst hw; revert c; decide
theorem cond_self (c : Dev nD) (w : BitVec 32) (hw : w = BitVec.ofNat 32 (c.val % 2)) : ¬ k0_cond2 c w = 1#1 := by
  subst hw; revert c; decide

/-- The condition of the local copy, as the kernel computes it from the device's number and the word. -/
abbrev localCond (c : Dev nD) (w : BitVec 32) : BitVec 1 :=
  Scalar.cmpi .ne (Scalar.extui (Scalar.cmpi .eq w (Scalar.remsi (Scalar.divsi (Dev.word c) 1#32) 2#32)) : BitVec 32) 0#32
theorem localCond_other (c : Dev nD) (w : BitVec 32) (hw : w = BitVec.ofNat 32 (1 - c.val % 2)) : ¬ localCond c w = 1#1 := by
  subst hw; revert c; decide
theorem localCond_self (c : Dev nD) (w : BitVec 32) (hw : w = BitVec.ofNat 32 (c.val % 2)) : localCond c w = 1#1 := by
  subst hw; revert c; decide

/-! ## The memrefs -/

/-- The staged block of `x`, the staged table, the staged result block, the send buffer. -/
abbrev xM : Memref sig .tc .vmem S1x512x512 .bf16 := Memref.whole cc0_stg0_0
abbrev tM : Memref sig .tc .smem S2 .i32 := Memref.whole cc0_stg1_0
abbrev oM : Memref sig .tc .vmem S1x512x512 .bf16 := Memref.whole cc0_stg2_0
abbrev sM : Memref sig .tc .vmem S1x512x512 .bf16 := Memref.whole cc0_scratch0

/-- The contents of a block, whichever of the three buffers holds it. -/
abbrev Block (F : FTy → Type) : Type := S1x512x512.Idx → Elt F .bf16

/-- The table word that device `c` loads from staged contents `t`. -/
abbrev rT (c : Dev nD) : Rect S2 := Rect.unit (s := S2) (k0_off1 c) S1.size (k0_off1_inb c)
abbrev wordAt (c : Dev nD) (t : (cc0_stg1_0 : Ref sig .tc).ty.Contents (Elt F)) : BitVec 32 :=
  ((Memref.whole cc0_stg1_0).access (rT c) : View sig .tc _ _ _).read (Elt F) t (Shape.Idx.first (s := S1) (numel1_S1.symm ▸ Nat.one_pos))

/-- It is the entry at the device's column. -/
theorem wordAt_eq (c : Dev nD) (t : IVec S2 32) : wordAt (F := F) c t = t (colIdx c) := by
  show t _ = _
  refine congrArg t (funext fun a => Fin.ext ?_)
  fin_cases a; fin_cases c <;> rfl

/-! ## The chunks -/

/-- Chunk `k` is rows `128 k` to `128 k + 127` of the block. -/
abbrev chunkOff (k : Fin 4) : Fin 3 → ℕ := ![0, 128 * k.val, 0]
theorem chunk_inb (k : Fin 4) : ∀ a, chunkOff k a + S1x128x512.size a ≤ S1x512x512.size a := by revert k; decide
abbrev chunkR (k : Fin 4) : Rect S1x512x512 := Rect.unit (s := S1x512x512) (chunkOff k) S1x128x512.size (chunk_inb k)

/-- The send buffer's and the result block's chunk `k`, as the memrefs the copies name. -/
abbrev sC (k : Fin 4) : Memref sig .tc .vmem S1x128x512 .bf16 := sM.slice (chunkR k) (fun _ => rfl)
abbrev oC (k : Fin 4) : Memref sig .tc .vmem S1x128x512 .bf16 := oM.slice (chunkR k) (fun _ => rfl)

/-- The elements of chunk `k`. -/
def chunkSet (k : Fin 4) : Finset S1x512x512.Idx := (chunkR k).set

theorem sC_set (k : Fin 4) : (sC k).view.set = chunkSet k := View.set_slice_whole cc0_scratch0 (chunkR k)
theorem oC_set (k : Fin 4) : (oC k).view.set = chunkSet k := View.set_slice_whole cc0_stg2_0 (chunkR k)

/-- Different chunks have no element in common, and together they are the whole block. -/
theorem chunks_disjoint (k k' : Fin 4) (h : k ≠ k') : Disjoint (chunkSet k) (chunkSet k') :=
  Ring.lead_disjoint (s := S1x512x512) (1 : Fin 3) 128 chunkOff S1x128x512.size chunk_inb (fun _ => rfl) rfl k k' h
theorem chunks_cover : Finset.univ.biUnion chunkSet = Finset.univ :=
  Ring.lead_cover (s := S1x512x512) (1 : Fin 3) 128 chunkOff S1x128x512.size chunk_inb (fun _ => rfl)
    (by decide) rfl (by decide) rfl

/-- The load of chunk `k` of the staged `x`. -/
abbrev loadC (k : Fin 4) (f : Block F) : S1x128x512.Idx → Elt F .bf16 := xM.view.readAt (Elt F) (chunkR k).toLoadRect f

/-- After chunk `k` of a block `f` is stored into the send buffer's chunk `k`, that chunk holds what `f` holds there. -/
theorem stored_chunk (k : Fin 4) (g f : Block F) (i : S1x512x512.Idx) (hi : i ∈ chunkSet k) :
    (sM.access (chunkR k) : View sig .tc _ _ _).write (Elt F) g (loadC k f) Finset.univ i = f i := by
  unfold chunkSet at hi
  rw [← View.set_slice_whole cc0_scratch0 (chunkR k)] at hi
  obtain ⟨x, -, rfl⟩ := Finset.mem_map.mp hi
  exact View.write_emb_of_mem _ _ (Finset.mem_univ x)

/-- After chunk `k` of the send buffer at contents `f` is copied over chunk `k` of the result block, that chunk holds
    what `f` holds there. -/
theorem copied_chunk (k : Fin 4) (g f : Block F) (i : S1x512x512.Idx) (hi : i ∈ chunkSet k) :
    (oC k).view.write (Elt F) g ((sC k).view.read (Elt F) f) Finset.univ i = f i := by
  rw [← oC_set k] at hi
  obtain ⟨x, -, rfl⟩ := Finset.mem_map.mp hi
  exact View.write_emb_of_mem _ _ (Finset.mem_univ x)

/-- The body's reshapes of a chunk to 128 × 512 and back change nothing. -/
theorem pay2_eq (v : S1x128x512.Idx → Elt F .bf16) : k0_pay2 v = v := shapeCast_shapeCast v _ _
theorem pay3_eq (v : S1x128x512.Idx → Elt F .bf16) : k0_pay3 v = v := shapeCast_shapeCast v _ _
theorem pay4_eq (v : S1x128x512.Idx → Elt F .bf16) : k0_pay4 v = v := shapeCast_shapeCast v _ _
theorem pay6_eq (v : S1x128x512.Idx → Elt F .bf16) : k0_pay6 (k0_pay5 v) = v := shapeCast_shapeCast v _ _
/-- Nor does the reshape of a whole block to its own shape. -/
theorem pay1_eq (v : Block F) : k0_pay1 v = v := shapeCast_self v _

/-! ## The semaphores -/

/-- The barrier semaphore, and the send and receive semaphores of each chunk. -/
abbrev barS : Sem sig := (SemArray.scalar (sig.barrier 0 rfl) : Sems sig S_).sem
theorem sem_inb (k : Fin 4) : ∀ a, (![k.val] : Fin 1 → ℕ) a + S1.size a ≤ S4.size a := by revert k; decide
abbrev sendS (k : Fin 4) : DmaSem sig := ((cc0_scratch1.slice (Rect.unit (s := S4) ![k.val] S1.size (sem_inb k))).squeeze S_ squeezes_S1_S_).sem
abbrev recvS (k : Fin 4) : DmaSem sig := ((cc0_scratch2.slice (Rect.unit (s := S4) ![k.val] S1.size (sem_inb k))).squeeze S_ squeezes_S1_S_).sem

end Cert.Permute

end
-- ==== Proof.Protocol.lean ====
/-
# The exchange: its cells, its schedule, what each device owes

Each device takes part with nine semaphores: the runtime's barrier semaphore and, per chunk, a send and a receive
semaphore. Each of these cells is paid exactly once and waited on exactly once:

* the barrier cell of `c` is paid one unit by the other device of the row, and the payment hands `c` that device's result
  block to write into;
* the receive cell `k` of `c` is paid the credit of one chunk by the other device's copy `k`, and the payment hands `c`
  chunk `k` of its own result block, now holding the other device's chunk;
* the send cell `k` of `c` is paid the same credit by its own copy `k`, and the payment gives back the chunk of the send
  buffer the copy read.

A device owes the other one the barrier unit and the four receive credits from the start. Barrier cells are at level 1,
receive cells at level 2 and all other cells at level 0, and a device waits only below what it owes.
-/
module

public import proofs.«01_k».proof.Proof.Chunks

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging copies' rounds beside the exchange's -/

abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (m : (ℓ : Loc nD τ sig) → Buf (Elt F) ℓ) (ρ : Dev nD → PrngReg)

/-- The state at launch: any contents, every counter zero, any generator registers. -/
def s₀ : MemSt nD τ sig (Elt F) := ⟨m, fun _ => 0, ρ⟩

/-! ## The cells -/

/-- A semaphore of the exchange: the barrier (`none`), the send (`false`) or receive (`true`) semaphore of a chunk. -/
abbrev Slot : Type := Option (Bool × Fin 4)

def ownSem : Bool × Fin 4 → SemLoc sig
  | (false, k) => .dma (sendS k)
  | (true, k) => .dma (recvS k)
def semOf : Slot → SemLoc sig
  | none => .reg barS
  | some j => ownSem j

/-- All nine, as a list. -/
abbrev slots : List Slot :=
  [none, some (false, 0), some (false, 1), some (false, 2), some (false, 3), some (true, 0), some (true, 1), some (true, 2), some (true, 3)]
/-- The slot of a semaphore, if it has one. -/
def slotOf (sm : SemLoc sig) : Option Slot := slots.find? fun s => decide (semOf s = sm)

theorem slotOf_semOf (s : Slot) : slotOf (semOf s) = some s := by revert s; decide
theorem semOf_injective : Function.Injective semOf := fun s s' h => Option.some.inj (by rw [← slotOf_semOf s, h, slotOf_semOf s'])

abbrev cell (c : Dev nD) (s : Slot) : GSem nD τ sig := ((c : Thread nD τ), semOf s)
theorem cell_injective : Function.Injective (fun x : Dev nD × Slot => cell x.1 x.2) := by
  rintro ⟨c, s⟩ ⟨c', s'⟩ h
  have h1 : c = c' := congrArg (fun g : GSem nD τ sig => g.1.1) h
  have h2 : s = s' := semOf_injective (congrArg Prod.snd h)
  rw [h1, h2]

/-- The credit of one chunk's copy. -/
abbrev N : ℕ := (oC 0).view.dmaCredit
theorem N_pos : 0 < N := View.dmaCredit_pos _ (by decide)
/-- What one payment of a slot is worth. -/
def amt : Slot → ℕ
  | none => 1
  | some _ => N
theorem amt_pos (s : Slot) : 0 < amt s := by cases s; exacts [Nat.one_pos, N_pos]

/-! ## Contents and the payments -/

/-- The block of `x` and the table that device `c` stages, as the launch's memory holds them. -/
def xBlk (c : Dev nD) : Block F := (win0_0.blk (0 : Fin 1)).view.read (Elt F) ((s₀ m ρ).mem ((c : Thread nD τ).loc main_arg0))
def tBlk (c : Dev nD) : IVec S2 32 := (win0_1.blk (0 : Fin 1)).view.read (Elt F) ((s₀ m ρ).mem ((c : Thread nD τ).loc main_arg1))

/-- Chunk `k` of the send buffer, and of the result block, of device `c`, holding what `f` holds there. -/
def sAt (c : Dev nD) (k : Fin 4) (f : Block F) : sProp 𝕄 := (sC k).view.loc (c : Thread nD τ) ↦[(sC k).view.set]{fullShare} f
def oAt (c : Dev nD) (k : Fin 4) (f : Block F) : sProp 𝕄 := (oC k).view.loc (c : Thread nD τ) ↦[(oC k).view.set]{fullShare} f

/-- The whole send buffer, and the whole result block, of device `c` at contents `f`. -/
def sWhole (c : Dev nD) (f : Block F) : sProp 𝕄 := (c : Thread nD τ).loc cc0_scratch0 ↦{fullShare} f
def oWhole (c : Dev nD) (f : Block F) : sProp 𝕄 := (c : Thread nD τ).loc cc0_stg2_0 ↦{fullShare} f

omit [FloatOps F] in
/-- The whole is its four chunks. -/
theorem sWhole_eq (c : Dev nD) (f : Block F) : (sWhole c f : sProp 𝕄) = bigSep Finset.univ fun k => sAt c k f := by
  unfold sWhole sAt
  rw [bigSep_congr (Ψ := fun k : Fin 4 => ((c : Thread nD τ).loc cc0_scratch0 ↦[chunkSet k]{fullShare} f : sProp 𝕄)) fun k _ => by rw [sC_set k]]
  exact Ring.pointsTo_blocks (ℓ := (c : Thread nD τ).loc cc0_scratch0) chunkSet chunks_disjoint chunks_cover f
omit [FloatOps F] in
theorem oWhole_eq (c : Dev nD) (f : Block F) : (oWhole c f : sProp 𝕄) = bigSep Finset.univ fun k => oAt c k f := by
  unfold oWhole oAt
  rw [bigSep_congr (Ψ := fun k : Fin 4 => ((c : Thread nD τ).loc cc0_stg2_0 ↦[chunkSet k]{fullShare} f : sProp 𝕄)) fun k _ => by rw [oC_set k]]
  exact Ring.pointsTo_blocks (ℓ := (c : Thread nD τ).loc cc0_stg2_0) chunkSet chunks_disjoint chunks_cover f

omit [FloatOps F] in
/-- Contents that agree on a chunk are the same to its holder. -/
theorem sAt_congr (c : Dev nD) (k : Fin 4) {f g : Block F} (h : ∀ i ∈ chunkSet k, f i = g i) : (sAt c k f : sProp 𝕄) = sAt c k g := by
  unfold sAt; exact pointsTo_congr (by rw [sC_set k]; exact h)
omit [FloatOps F] in
theorem oAt_congr (c : Dev nD) (k : Fin 4) {f g : Block F} (h : ∀ i ∈ chunkSet k, f i = g i) : (oAt c k f : sProp 𝕄) = oAt c k g := by
  unfold oAt; exact pointsTo_congr (by rw [oC_set k]; exact h)

/-- What a payment of slot `s` of device `c` hands to `c`. -/
def pay (c : Dev nD) : Slot → sProp 𝕄
  | none => iprop(∃ f, oWhole (other c) f)
  | some (false, k) => sAt c k (xBlk m ρ c)
  | some (true, k) => oAt c k (xBlk m ρ (other c))

omit [FloatOps F] in
instance pay_storable (c : Dev nD) (s : Slot) : BI.Storable (upEmb : UEmb _ 𝕄) (pay m ρ c s) := by
  rcases s with _ | ⟨_ | _, k⟩ <;> unfold pay
  · unfold oWhole; infer_instance
  · unfold sAt; infer_instance
  · unfold oAt; infer_instance

/-! ## The schedule -/

/-- One round: every cell of the exchange has one payment in round 0, and none later. -/
def sched : Rounds.Schedule (GSem nD τ sig) Unit 𝕄 where
  duties g r := if r = 0 ∧ g.1.2 = .tc ∧ (slotOf g.2).isSome then {()} else ∅
  unitless _ := False
  amount g _ _ := match slotOf g.2 with
    | some s => amt s
    | none => 1
  payload g _ _ := match slotOf g.2 with
    | some s => pay m ρ g.1.1 s
    | none => iprop(emp)
  amount_pos g _ _ _ := by
    split
    · exact amt_pos _
    · exact Nat.one_pos

instance sched_payload_storable (g : GSem nD τ sig) (r : ℕ) (d : Unit) :
    BI.Storable (upEmb : UEmb _ 𝕄) ((sched (F := F) m ρ).payload g r d) := by
  show BI.Storable upEmb (match slotOf g.2 with
    | some s => pay m ρ g.1.1 s
    | none => iprop(emp))
  split <;> infer_instance

omit [FloatOps F] in
theorem duties_cell (c : Dev nD) (s : Slot) : (sched (F := F) m ρ).duties (cell c s) 0 = {()} := by
  dsimp only [sched]; exact if_pos ⟨rfl, rfl, by rw [slotOf_semOf]; rfl⟩
omit [FloatOps F] in
theorem duties_later (g : GSem nD τ sig) (r : ℕ) (hr : 1 ≤ r) : (sched (F := F) m ρ).duties g r = ∅ := by
  dsimp only [sched]; exact if_neg fun h => by omega
omit [FloatOps F] in
theorem amount_cell (c : Dev nD) (s : Slot) (d : Unit) : (sched (F := F) m ρ).amount (cell c s) 0 d = amt s := by
  dsimp only [sched]; rw [slotOf_semOf]
omit [FloatOps F] in
theorem payload_cell (c : Dev nD) (s : Slot) (d : Unit) : (sched (F := F) m ρ).payload (cell c s) 0 d = pay m ρ c s := by
  dsimp only [sched]; rw [slotOf_semOf]
omit [FloatOps F] in
theorem expect_cell (c : Dev nD) (s : Slot) : (sched (F := F) m ρ).expect (cell c s) 0 = amt s := by
  unfold Schedule.expect Schedule.amountOf; rw [duties_cell, Finset.sum_singleton, amount_cell]
omit [FloatOps F] in
/-- The round of a cell hands over its one payment. -/
theorem rest_cell (c : Dev nD) (s : Slot) :
    bigSep ((sched (F := F) m ρ).duties (cell c s) 0 \ ∅) (fun d => (sched (F := F) m ρ).payload (cell c s) 0 d) = pay m ρ c s := by
  rw [Finset.sdiff_empty, duties_cell, bigSep_singleton, payload_cell]

/-! ## What a device owes, and the levels -/

/-- The receive credit of chunk `k`, and the barrier unit, that device `c` owes the other device of its row. -/
abbrev dueR (c : Dev nD) (k : Fin 4) : CellTallies nD τ sig Unit := tallyAt (cell (other c) (some (true, k))) () N
abbrev dueB (c : Dev nD) : CellTallies nD τ sig Unit := tallyAt (cell (other c) none) () 1
/-- After the signal device `c` owes the four credits; at launch the barrier unit too. The order is the order in which they
    are paid, the first one last. -/
def O₁ (c : Dev nD) : CellTallies nD τ sig Unit := dueR c 3 + dueR c 2 + dueR c 1 + dueR c 0
def O₀ (c : Dev nD) : CellTallies nD τ sig Unit := O₁ c + dueB c

def L (g : GSem nD τ sig) : Finset Unit := if g.1.2 = .tc then {()} else ∅
/-- Barrier cells at level 1, receive cells at level 2, everything else at level 0. -/
def lv (g : GSem nD τ sig) (_ : Unit) : ℕ := match slotOf g.2 with
  | some none => 1
  | some (some (true, _)) => 2
  | _ => 0

theorem L_of_ne (g : GSem nD τ sig) (h : g.1.2 ≠ .tc) : L g = ∅ := if_neg h
theorem mem_L (c : Dev nD) (sm : SemLoc sig) : () ∈ L ((c : Thread nD τ), sm) := by
  rw [show L ((c : Thread nD τ), sm) = {()} from if_pos rfl]; exact Finset.mem_singleton_self _

theorem lv_bar (c : Dev nD) : lv (cell c none) () = 1 := by dsimp only [lv]; rw [slotOf_semOf]
theorem lv_recv (c : Dev nD) (k : Fin 4) : lv (cell c (some (true, k))) () = 2 := by dsimp only [lv]; rw [slotOf_semOf]

/-- A tally at one cell is positive at that cell only. -/
theorem tallyAt_pos {g₀ g : GSem nD τ sig} {u : Unit} {n : ℕ} (h : 0 < (tallyAt g₀ () n : CellTallies nD τ sig Unit) g u) : g = g₀ := by
  rw [tallyAt_apply] at h
  by_contra hn
  rw [if_neg fun h' => hn h'.1] at h
  exact Nat.lt_irrefl 0 h

/-- What is owed after the signal is owed to receive cells of the other device; -/
theorem O₁_pos {c : Dev nD} {g : GSem nD τ sig} {u : Unit} (h : 0 < O₁ c g u) : ∃ k, g = cell (other c) (some (true, k)) := by
  unfold O₁ at h
  simp only [Pi.add_apply, Finsupp.add_apply] at h
  by_contra hn
  have h0 : ∀ k, dueR c k g u = 0 := fun k => Nat.eq_zero_of_not_pos fun h' => hn ⟨k, tallyAt_pos h'⟩
  rw [h0 0, h0 1, h0 2, h0 3] at h
  exact Nat.lt_irrefl 0 h
/-- at launch to its barrier cell too. -/
theorem O₀_pos {c : Dev nD} {g : GSem nD τ sig} {u : Unit} (h : 0 < O₀ c g u) :
    g = cell (other c) none ∨ ∃ k, g = cell (other c) (some (true, k)) := by
  unfold O₀ at h
  rw [Pi.add_apply, Finsupp.add_apply] at h
  rcases Nat.eq_zero_or_pos (O₁ c g u) with h1 | h1
  · rw [h1, Nat.zero_add] at h; exact .inl (tallyAt_pos h)
  · exact .inr (O₁_pos h1)

omit [FloatOps F] in
/-- The staging copies' semaphores may be waited on at launch and at the end. -/
theorem mayWait_stage (c : Dev nD) (q : DmaSem sig) (hq : slotOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _)
      (fun g u hg => by rcases O₀_pos hg with rfl | ⟨k, rfl⟩ <;> exact mem_L _ _)
      (fun p hp => by rw [Finset.mem_singleton.mp hp]; dsimp only [lv]; rw [hq])
      (fun g u hg => by
        rcases O₀_pos hg with rfl | ⟨k, rfl⟩
        · rw [lv_bar]; decide
        · rw [lv_recv]; decide)
  · rw [MayWait_zero]; iintro -; iempintro

omit [FloatOps F] in
/-- The barrier may be waited on while the four receive credits are owed. -/
theorem mayWait_bar (c : Dev nD) : (levAts L lv : sProp 𝕄) ⊢ MayWait (c : Thread nD τ) (semOf none) () (O₁ c) :=
  MayOwe.of_cut (L := L) (lev := lv) 1 (fun p hp => by rw [Finset.mem_singleton.mp hp]; exact mem_L _ _)
    (fun g u hg => by obtain ⟨k, rfl⟩ := O₁_pos hg; exact mem_L _ _)
    (fun p hp => by rw [Finset.mem_singleton.mp hp]; exact (lv_bar c).le)
    (fun g u hg => by obtain ⟨k, rfl⟩ := O₁_pos hg; rw [lv_recv]; decide)

omit [FloatOps F] in
/-- Anything may be waited on while nothing is owed. -/
theorem mayWait_none (c : Dev nD) (s : Slot) : (levAts L lv : sProp 𝕄) ⊢ MayWait (c : Thread nD τ) (semOf s) () 0 := by
  rw [MayWait_zero]; iintro -; iempintro

/-! ## What a device starts the exchange with -/

/-- Every cell's invariant, under the names `K`, and that every cell has reached round 0. -/
def records (K : Dev nD × Slot → ℕ) : sProp 𝕄 :=
  iprop((bigSep Finset.univ fun x : Dev nD × Slot => cellInv ER (sched m ρ) (K x) (cell x.1 x.2))
    ∗ bigSep Finset.univ fun x : Dev nD × Slot => reached ER (cell x.1 x.2) 0)

instance records_persistent (K : Dev nD × Slot → ℕ) : BI.Persistent (records m ρ K) := by unfold records; infer_instance

omit [FloatOps F] in
theorem records_inv (K : Dev nD × Slot → ℕ) (c : Dev nD) (s : Slot) : records m ρ K ⊢ cellInv ER (sched m ρ) (K (c, s)) (cell c s) := by
  unfold records; exact sep_elim_left.trans (bigSep_elim (Finset.mem_univ (c, s)))
omit [FloatOps F] in
theorem records_reached (K : Dev nD × Slot → ℕ) (c : Dev nD) (s : Slot) : records m ρ K ⊢ reached ER (cell c s) 0 := by
  unfold records; exact sep_elim_right.trans (bigSep_elim (Finset.mem_univ (c, s)))

/-- The device whose cell of slot `s` device `c` pays: itself for a send cell, the other device otherwise. -/
def payee (c : Dev nD) : Slot → Dev nD
  | some (false, _) => c
  | _ => other c
theorem payee_payee (c : Dev nD) (s : Slot) : payee (payee c s) s = c := by
  rcases s with _ | ⟨_ | _, k⟩
  · exact other_other c
  · rfl
  · exact other_other c

/-- Device `c`'s positions at its nine cells, and the tokens of the nine payments it makes. -/
def posns (c : Dev nD) : sProp 𝕄 := bigSep Finset.univ fun s : Slot => atPos ER (cell c s) 0 ∅ 0
def tokens (c : Dev nD) : sProp 𝕄 := bigSep Finset.univ fun s : Slot => dutyTok ER (cell (payee c s) s) 0 ()
/-- The credit tokens of the waits that others pay for. -/
def credits (c : Dev nD) : sProp 𝕄 :=
  iprop(cred (tallyAt (cell c none) () 1) ∗ bigSep Finset.univ fun k : Fin 4 => cred (tallyAt (cell c (some (true, k))) () N))

def start (c : Dev nD) : sProp 𝕄 :=
  iprop((∃ K, records m ρ K ∗ posns c ∗ tokens c) ∗ credits c ∗ levAts L lv)

omit [FloatOps F] in
theorem bigSep_slots (Φ : Slot → sProp 𝕄) : bigSep Finset.univ Φ
    = iprop(Φ none ∗ Φ (some (false, 0)) ∗ Φ (some (false, 1)) ∗ Φ (some (false, 2)) ∗ Φ (some (false, 3))
        ∗ Φ (some (true, 0)) ∗ Φ (some (true, 1)) ∗ Φ (some (true, 2)) ∗ Φ (some (true, 3))) :=
  bigSep_univ_eq_bigSepL slots (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Before the body: the above, and the send buffer at any contents. After it: the send buffer again, and the nine
    counters at zero. -/
def Φ₀ (c : Dev nD) : sProp 𝕄 := iprop(start m ρ c ∗ ∃ f, sWhole c f)
def Φ₁ (c : Dev nD) : sProp 𝕄 := iprop((∃ f, sWhole c f) ∗ bigSep Finset.univ fun s : Slot => semVal (cell c s) 0)

/-- The run of the kernel on device `c`: the staged inputs stay as they are, the result block ends as the other device's
    block of `x`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xBlk m ρ c
    | ⟨1, _⟩ => tBlk m ρ c
    | ⟨2, _⟩ => xBlk m ρ (other c)
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Permute

end
-- ==== Proof.Body.lean ====
/-
# The exchange: the kernel's body on one device

The body is run once, at a device `c` that is not fixed. One lemma sends a chunk (two loads, a store and a copy), one
lemma takes a wait with what it hands over; the body applies the first four times and the second nine times.
-/
module

public import proofs.«01_k».proof.Proof.Protocol

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The windows -/

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_x (t : Fin cfg0.N) : (cfg0.win (0 : Fin 3)).fetch t = true := by rw [fin_N t]; rfl
theorem fetch_t (t : Fin cfg0.N) : (cfg0.win (1 : Fin 3)).fetch t = true := by rw [fin_N t]; rfl

/-- A staging buffer of device `c` held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Steps

variable (K : Dev nD × Slot → ℕ)

/-! ## One wait -/

/-- A wait of device `c` on its slot `s` for the slot's one payment: what the payment hands over is `c`'s, and the cell,
    which nobody pays again, closes with its counter at zero. -/
theorem wp_wait_slot (c : Dev nD) (s : Slot) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (semOf s) (amt s) Q)
    (O : CellTallies nD τ sig Unit) (hO : (levAts L lv : sProp 𝕄) ⊢ MayWait (c : Thread nD τ) (semOf s) () O) (W : Waits sig Unit)
    {Q : PUnit → sProp 𝕄} {k : PUnit → Prog (TpuEff nD τ sig (Elt F) Λ₀ .tc) PUnit} :
    iprop(records m ρ K ∗ levAts L lv ∗ cred (tallyAt (cell c s) () (amt s)) ∗ owes (c : Thread nD τ) O W ∗ atPos ER (cell c s) 0 ∅ 0)
      ⊢ iprop((((∃ W', owes (c : Thread nD τ) O W') ∗ pay m ρ c s ∗ semVal (cell c s) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, #Hlev, Hc, HO, Hat⟩ Hk
  ihave #HI := (records_inv m ρ K c s) $$ HR
  iapply (Rounds.wp_wait_rest_token 𝒱₀ ER (sched m ρ) (c : Thread nD τ) none (κ := K (c, s)) hw (Set.mem_univ _) () (O := O) (W := W)
      (R := 0) (m := 0) (T := ∅) (by rw [Nat.zero_add, expect_cell])) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hp := (Entails.of_eq (rest_cell m ρ c s)) $$ Hpay
  imod (Rounds.cell_close ER (sched m ρ) (Set.mem_univ (K (c, s))) (fun h => h) (R := 0 + 1) (duties_later m ρ (cell c s))) $$ [Hat] with Hz
  · isplitr; · iexact HI
    iexact Hat
  iapply Hk
  isplitl [HO]; · iexists _; iexact HO
  isplitl [Hp] <;> iassumption

/-- The same for a wait for a chunk's copy, while nothing is owed. -/
theorem wp_wait_dma (c : Dev nD) (j : Bool × Fin 4) (q : DmaSem sig) (src dst : Memref sig .tc .vmem S1x128x512 .bf16)
    {hsrc : src.view.WordExact} {hdst : dst.view.WordExact} (hq : SemLoc.dma q = ownSem j) (hN : dst.view.dmaCredit = N) (W : Waits sig Unit)
    {Q : PUnit → sProp 𝕄} {k : PUnit → Prog (TpuEff nD τ sig (Elt F) Λ₀ .tc) PUnit} :
    iprop(records m ρ K ∗ levAts L lv ∗ cred (tallyAt (cell c (some j)) () N) ∗ owes (c : Thread nD τ) 0 W ∗ atPos ER (cell c (some j)) 0 ∅ 0)
      ⊢ iprop((((∃ W', owes (c : Thread nD τ) 0 W') ∗ pay m ρ c (some j) ∗ semVal (cell c (some j)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) :=
  wp_wait_slot m ρ K c (some j) (fun Q => (wpE_waitDma2_eq 𝒱₀ (c : Thread nD τ) none Set.univ Q).trans (by
    show waitSpec (c : Thread nD τ) Set.univ (.dma q) dst.view.dmaCredit Q = waitSpec (c : Thread nD τ) Set.univ (ownSem j) N Q
    rw [hq, hN])) 0 (mayWait_none c (some j)) W

/-! ## One chunk sent -/

omit [FloatOps F] in
/-- Every chunk's copy is worth the same credit. -/
theorem amount_chunk (k : Fin 4) : (oC k).view.amount (.dma (recvS k)) = N := rfl

omit [FloatOps F] in
theorem mem_duties (c : Dev nD) (s : Slot) : () ∈ (sched (F := F) m ρ).duties (cell c s) 0 := by
  rw [duties_cell]; exact Finset.mem_singleton_self _

omit [FloatOps F] in
/-- The payment of the other device's receive cell is `c`'s own chunk, there. -/
theorem payload_recv_other (c : Dev nD) (k : Fin 4) :
    (sched (F := F) m ρ).payload (cell (other c) (some (true, k))) 0 () = oAt (other c) k (xBlk m ρ c) := by
  rw [payload_cell]
  show oAt (other c) k (xBlk m ρ (other (other c))) = _
  rw [other_other]

/-- Copy `k` of device `c`, addressed to the other device `n`: the chunk of the send buffer and the chunk of `n`'s result
    block go in, and the credit for the send wait comes out, one receive credit less being owed. -/
theorem wp_copy (c n : Dev nD) (hn : n = other c) (k : Fin 4)
    {hsc : (oC k : Memref sig (Dev.tc n : Thread nD τ).2.kind .vmem S1x128x512 .bf16).view.ref.isScScratch = false}
    {hsrc : (sC k).view.WordExact} {hdst : (oC k).view.WordExact}
    {hsem : DmaTarget.Typed .vmem (.dma (recvS k)) (.remote (Dev.tc n : Thread nD τ) (oC k) (.dma (sendS k)) hsc)}
    {Q : PUnit → sProp 𝕄} {kt : PUnit → Prog (TpuEff nD τ sig (Elt F) Λ₀ .tc) PUnit}
    (fn : Block F) (O O' : CellTallies nD τ sig Unit) (hO : O = O' + dueR c k) (W : Waits sig Unit) :
    iprop(records m ρ K ∗ sAt c k (xBlk m ρ c) ∗ oAt (other c) k fn ∗ owes (c : Thread nD τ) O W
        ∗ dutyTok ER (cell c (some (false, k))) 0 () ∗ dutyTok ER (cell (other c) (some (true, k))) 0 ())
      ⊢ iprop(((cred (tallyAt (cell c (some (false, k))) () N) ∗ owes (c : Thread nD τ) O' W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (sC k) (.remote (Dev.tc n : Thread nD τ) (oC k) (.dma (sendS k)) hsc) (.dma (recvS k)) hsrc hdst hsem) kt) Q) := by
  subst hn
  iintro ⟨#HR, Hs, Ho, HO, HtS, HtR⟩
  ihave #HIs := (show records m ρ K ⊢ cellInv ER (sched m ρ) (K (c, some (false, k))) (Dev.tc c, .dma (sendS k)) from records_inv m ρ K c (some (false, k))) $$ HR
  ihave #HIr := (show records m ρ K ⊢ cellInv ER (sched m ρ) (K (other c, some (true, k))) (Dev.tc (other c), .dma (recvS k)) from records_inv m ρ K (other c) (some (true, k))) $$ HR
  ihave #Hrs := (records_reached m ρ K c (some (false, k))) $$ HR
  ihave #Hrr := (records_reached m ρ K (other c) (some (true, k))) $$ HR
  unfold sAt oAt
  iapply (Rounds.wp_send_pointsTo 𝒱₀ ER (sched m ρ) (c : Thread nD τ) none (c' := Dev.tc (other c)) (κ₁ := K (c, some (false, k))) (κ₂ := K (other c, some (true, k)))
    (src := sC k) (dst := oC k) (sS := .dma (sendS k)) (sem := .dma (recvS k))
    (r₁ := 0) (r₂ := 0) (d₁ := ()) (d₂ := ()) (fs := xBlk m ρ c) (fd := fn)
    (mem_duties m ρ c (some (false, k))) (mem_duties m ρ (other c) (some (true, k)))
    () () N (amount_chunk k) (amount_cell m ρ c (some (false, k)) ()) (amount_cell m ρ (other c) (some (true, k)) ()) O' hO (W := W)
    (Entails.of_eq (payload_cell m ρ c (some (false, k)) ()).symm)
    (Entails.of_eq ((oAt_congr (other c) k (copied_chunk k fn (xBlk m ρ c))).trans (payload_recv_other m ρ c k).symm))) $$ [Hs Ho HO HtS HtR]
  isplitr; · iexact HIs
  isplitr; · iexact HIr
  isplitl [Hs]; · iexact Hs
  isplitl [Ho]; · iexact Ho
  isplitl [HO]; · iexact HO
  isplitl [HtS]; · iexact HtS
  isplitr; · iexact Hrs
  isplitl [HtR]; · iexact HtR
  iexact Hrr

/-- The staged block of `x` of device `c`, whole. -/
def xPts (c : Dev nD) : sProp 𝕄 := (c : Thread nD τ).loc cc0_stg0_0 ↦{fullShare} xBlk m ρ c

/-- Chunk `k` sent: it is loaded from the staged block, the send buffer's chunk is loaded and not used, the chunk is
    stored into the send buffer and copied to the other device. -/
theorem wp_chunk (c n : Dev nD) (hn : n = other c) (k : Fin 4)
    {hl : xM.view.LoadsAt (chunkR k).toLoadRect} {hl' : sM.view.LoadsAt (chunkR k).toLoadRect}
    {hx : (sM.access (chunkR k)).Stores Finset.univ} {hm : Finset.univ = Finset.univ ∨ ∀ a, (chunkR k).stride a = 1}
    {hsc : (oC k : Memref sig (Dev.tc n : Thread nD τ).2.kind .vmem S1x128x512 .bf16).view.ref.isScScratch = false}
    {hsrc : (sC k).view.WordExact} {hdst : (oC k).view.WordExact}
    {hsem : DmaTarget.Typed .vmem (.dma (recvS k)) (.remote (Dev.tc n : Thread nD τ) (oC k) (.dma (sendS k)) hsc)}
    {Q : PUnit → sProp 𝕄} {kt : PUnit → Prog (TpuEff nD τ sig (Elt F) Λ₀ .tc) PUnit}
    (fs fn : Block F) (O O' : CellTallies nD τ sig Unit) (hO : O = O' + dueR c k) (W : Waits sig Unit) :
    iprop(records m ρ K ∗ xPts m ρ c ∗ sAt c k fs ∗ oAt (other c) k fn ∗ owes (c : Thread nD τ) O W
        ∗ dutyTok ER (cell c (some (false, k))) 0 () ∗ dutyTok ER (cell (other c) (some (true, k))) 0 ())
      ⊢ iprop(((xPts m ρ c ∗ cred (tallyAt (cell c (some (false, k))) () N) ∗ owes (c : Thread nD τ) O' W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.load xM (chunkR k).toLoadRect hl) fun v => .op (.load sM (chunkR k).toLoadRect hl') fun _ =>
                .op (.store sM (chunkR k) v Finset.univ hx hm) fun _ =>
                .op (.enqueueDma (sC k) (.remote (Dev.tc n : Thread nD τ) (oC k) (.dma (sendS k)) hsc) (.dma (recvS k)) hsrc hdst hsem) kt) Q) := by
  iintro ⟨#HR, Hx, Hs, Ho, HO, HtS, HtR⟩ Hk
  unfold xPts
  iapply (wp_load 𝒱₀ (c : Thread nD τ) none Set.univ (m := xM) (Finset.subset_univ _)) $$ Hx; iintro Hx
  unfold sAt
  iapply (wp_load 𝒱₀ (c : Thread nD τ) none Set.univ (m := sM) (r := (chunkR k).toLoadRect) (S := (sC k).view.set) (by
    exact (View.set_slice sM.view (chunkR k)).symm.subset)) $$ Hs; iintro Hs
  iapply (wp_store 𝒱₀ (c : Thread nD τ) none Set.univ (m := sM) (r := chunkR k) (Mk := Finset.univ) (S := (sC k).view.set) (Finset.Subset.refl _)) $$ Hs; iintro Hs
  iapply (wp_copy m ρ K c n hn k fn O O' hO W) $$ [Hs Ho HO HtS HtR]
  · isplitr; · iexact HR
    isplitl [Hs]
    · iapply (Entails.of_eq (sAt_congr (F := F) c k (stored_chunk k fs (xBlk m ρ c)))); unfold sAt; iexact Hs
    isplitl [Ho]; · iexact Ho
    isplitl [HO]; · iexact HO
    isplitl [HtS] <;> iassumption
  iintro ⟨Hc, HO⟩
  iapply Hk
  isplitl [Hx]; · iexact Hx
  isplitl [Hc] <;> iassumption

/-! ## The body -/

def bodyPre (c : Dev nD) : sProp 𝕄 :=
  iprop(((records m ρ K ∗ posns c ∗ tokens c) ∗ credits c ∗ levAts L lv ∗ ∃ f, sWhole c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xBlk m ρ c) ∗ stg c cc0_stg1_0 (tBlk m ρ c)
    ∗ stg c cc0_stg2_0 (xBlk m ρ (other c)))

/-- The word a device reads of the staged table is the launch's table at its column. -/
theorem wordAt_tBlk (c : Dev nD) : wordAt (F := F) c (tBlk m ρ c) = tableOf m c (colIdx c) := by
  rw [wordAt_eq (F := F)]
  show m ((c : Thread nD τ).loc main_arg1) _ = m ((c : Thread nD τ).loc main_arg1) _
  refine congrArg _ (funext fun a => Fin.ext ?_)
  fin_cases a; fin_cases c <;> rfl

omit [FloatOps F] in
/-- The payment of the other device's barrier cell is `c`'s result block. -/
theorem give_block (c : Dev nD) (f : Block F) : oWhole c f ⊢ (sched (F := F) m ρ).payload ((other c : Thread nD τ), .reg barS) 0 () := by
  refine BIBase.Entails.trans ?_ (Entails.of_eq (payload_cell m ρ (other c) none ()).symm)
  show oWhole c f ⊢ iprop(∃ f, oWhole (other (other c)) f)
  rw [other_other]
  iintro H; iexists f; iexact H

set_option maxHeartbeats 4000000 in
/-- The body run from `bodyPre` to `bodyPost`: the table says to exchange, so the device signals, waits for the other
    device's signal, sends its four chunks, and waits for the four that arrive and for the four it sent. -/
theorem sound_body (hex : Exchanges m) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have hw : wordAt (F := F) c (tBlk m ρ c) = BitVec.ofNat 32 (1 - c.val % 2) := (wordAt_tBlk m ρ c).trans (hex c)
  simp only [cc0_body_eq_skeleton]; unfold cc0_body_skel
  simp only [k0_part1_eq_skeleton, k0_part2_eq_skeleton, k0_part3_eq_skeleton, k0_part4_eq_skeleton]
  simp only [smemLoad, smemLoadElt, Prog.lift, Prog.bind_op, Prog.bind_ret, Prog.pure_eq_ret, Prog.bind_assoc, wp_deviceId]
  unfold bodyPre
  iintro ⟨⟨⟨⟨#HR, Hat, Htok⟩, Hcr, #Hlev, ⟨%f0, Hs⟩⟩, Ho, ⟨%d0, %g0, %hg0, Hx⟩, ⟨%d1, %g1, %hg1, Ht⟩, ⟨%d2, %g2, %hg2, Hout⟩⟩, Hk⟩
  have hx : g0 = xBlk m ρ c := by rw [hg0]; unfold Dat.before; rw [if_pos (fetch_x t₀)]; rfl
  have ht : g1 = tBlk m ρ c := by rw [hg1]; unfold Dat.before; rw [if_pos (fetch_t t₀)]; rfl
  subst hx ht
  unfold Dat.owesAt Pipeline.owesWithin
  icases Ho with ⟨%W, %hW, HO⟩
  rw [show (dats m ρ 0 c).owed t₀.castSucc = O₀ c from rfl]
  -- the table word
  iapply (wp_load_rect 𝒱₀ (c : Thread nD τ) none Set.univ (m := tM) (r := rT c) (Finset.subset_univ _)) $$ Ht; iintro Ht
  have hchk := chk_other c _ hw
  have hcond := cond_other c _ hw
  have hloc := localCond_other c _ hw
  simp only [wp_assume_of _ _ _ _ (d := k0_chk1.dec _ _) hchk]
  rw [if_neg hloc, dif_pos hcond]
  unfold k0_part1_skel k0_part2_skel k0_part3_skel k0_part4_skel
  simp only [semSignalWord, semWaitWord, Prog.lift, Prog.bind_op, Prog.bind_ret, Prog.pure_eq_ret, Prog.bind_assoc, pay2_eq, pay3_eq, pay4_eq, pay6_eq]
  rw [show (⟨k0_dev1 c (wordAt c (tBlk m ρ c)), k0_dev1_lt c _ hchk hcond⟩ : Dev nD) = other c from Fin.ext (dev1_other c _ hw)]
  unfold posns tokens credits
  ihave Hat := (Entails.of_eq (bigSep_slots (F := F) _)) $$ Hat
  ihave Htok := (Entails.of_eq (bigSep_slots (F := F) _)) $$ Htok
  icases Hat with ⟨HaB, HaS0, HaS1, HaS2, HaS3, HaR0, HaR1, HaR2, HaR3⟩
  icases Htok with ⟨HtB, HtS0, HtS1, HtS2, HtS3, HtR0, HtR1, HtR2, HtR3⟩
  icases Hcr with ⟨HcB, HcR⟩
  ihave HcR := (Entails.of_eq (bigSep_fin4 (F := F) _)) $$ HcR
  icases HcR with ⟨HcR0, HcR1, HcR2, HcR3⟩
  -- the signal: the other device gets this device's result block
  ihave #HIb := (records_inv m ρ K (other c) none) $$ HR
  ihave #Hrb := (records_reached m ρ K (other c) none) $$ HR
  unfold O₀
  iapply (Rounds.wp_signal 𝒱₀ ER (sched m ρ) (c : Thread nD τ) none (dst := (other c : Thread nD τ)) (κ := K (other c, none))
      (d := ()) (mem_duties m ρ (other c) none) ((amount_cell m ρ (other c) none ()).trans (by decide)) () (O₁ c) rfl)
    $$ [HO HtB Hout]
  · isplitr; · iexact HIb
    isplitl [HO]; · iexact HO
    isplitl [HtB]; · iexact HtB
    isplitl [Hout]
    · iapply (give_block m ρ c g2); unfold oWhole; iexact Hout
    iexact Hrb
  iintro HO
  -- the barrier wait: the other device's result block comes with it
  iapply (wp_wait_slot m ρ K c none (wpE_semWait_eq 𝒱₀ (c : Thread nD τ) none Set.univ) (O₁ c) (mayWait_bar c) W) $$ [HcB HO HaB]
  · isplitr; · iexact HR
    isplitr; · iexact Hlev
    isplitl [HcB]; · iexact HcB
    isplitl [HO]; · iexact HO
    iexact HaB
  iintro ⟨⟨%W0, HO⟩, Hout, HzB⟩
  unfold pay
  icases Hout with ⟨%fn, Hout⟩
  -- both buffers in chunks
  ihave Hs := (Entails.of_eq ((sWhole_eq (F := F) c f0).trans (bigSep_fin4 (F := F) _))) $$ Hs
  ihave Hout := (Entails.of_eq ((oWhole_eq (F := F) (other c) fn).trans (bigSep_fin4 (F := F) _))) $$ Hout
  icases Hs with ⟨Hs0, Hs1, Hs2, Hs3⟩
  icases Hout with ⟨Ho0, Ho1, Ho2, Ho3⟩
  unfold O₁
  iapply (wp_chunk m ρ K c _ (Fin.ext (dev2_other c _ hw)) 0 f0 fn (dueR c 3 + dueR c 2 + dueR c 1 + dueR c 0) (dueR c 3 + dueR c 2 + dueR c 1) rfl W0) $$ [Hx Hs0 Ho0 HO HtS0 HtR0]
  · isplitr; · iexact HR
    isplitl [Hx]; · unfold xPts; iexact Hx
    isplitl [Hs0]; · iexact Hs0
    isplitl [Ho0]; · iexact Ho0
    isplitl [HO]; · iexact HO
    isplitl [HtS0]; · iexact HtS0
    iexact HtR0
  iintro ⟨Hx, HcS0, HO⟩
  iapply (wp_chunk m ρ K c _ (Fin.ext (dev3_other c _ hw)) 1 f0 fn (dueR c 3 + dueR c 2 + dueR c 1) (dueR c 3 + dueR c 2) rfl W0) $$ [Hx Hs1 Ho1 HO HtS1 HtR1]
  · isplitr; · iexact HR
    isplitl [Hx]; · unfold xPts; iexact Hx
    isplitl [Hs1]; · iexact Hs1
    isplitl [Ho1]; · iexact Ho1
    isplitl [HO]; · iexact HO
    isplitl [HtS1]; · iexact HtS1
    iexact HtR1
  iintro ⟨Hx, HcS1, HO⟩
  iapply (wp_chunk m ρ K c _ (Fin.ext (dev4_other c _ hw)) 2 f0 fn (dueR c 3 + dueR c 2) (dueR c 3) rfl W0) $$ [Hx Hs2 Ho2 HO HtS2 HtR2]
  · isplitr; · iexact HR
    isplitl [Hx]; · unfold xPts; iexact Hx
    isplitl [Hs2]; · iexact Hs2
    isplitl [Ho2]; · iexact Ho2
    isplitl [HO]; · iexact HO
    isplitl [HtS2]; · iexact HtS2
    iexact HtR2
  iintro ⟨Hx, HcS2, HO⟩
  iapply (wp_chunk m ρ K c _ (Fin.ext (dev5_other c _ hw)) 3 f0 fn (dueR c 3) 0 (zero_add _).symm W0) $$ [Hx Hs3 Ho3 HO HtS3 HtR3]
  · isplitr; · iexact HR
    isplitl [Hx]; · unfold xPts; iexact Hx
    isplitl [Hs3]; · iexact Hs3
    isplitl [Ho3]; · iexact Ho3
    isplitl [HO]; · iexact HO
    isplitl [HtS3]; · iexact HtS3
    iexact HtR3
  iintro ⟨Hx, HcS3, HO⟩
  -- the four chunks that arrive, then the four sent
  iapply (wp_wait_dma m ρ K c (true, 0) (recvS 0) (sC 0) (oC 0) rfl rfl W0) $$ [HcR0 HO HaR0]
  · isplitr; · iexact HR
    isplitr; · iexact Hlev
    isplitl [HcR0]; · iexact HcR0
    isplitl [HO]; · iexact HO
    iexact HaR0
  iintro ⟨⟨%W1, HO⟩, Ho0, HzR0⟩
  iapply (wp_wait_dma m ρ K c (true, 1) (recvS 1) (sC 1) (oC 1) rfl rfl W1) $$ [HcR1 HO HaR1]
  · isplitr; · iexact HR
    isplitr; · iexact Hlev
    isplitl [HcR1]; · iexact HcR1
    isplitl [HO]; · iexact HO
    iexact HaR1
  iintro ⟨⟨%W2, HO⟩, Ho1, HzR1⟩
  iapply (wp_wait_dma m ρ K c (true, 2) (recvS 2) (sC 2) (oC 2) rfl rfl W2) $$ [HcR2 HO HaR2]
  · isplitr; · iexact HR
    isplitr; · iexact Hlev
    isplitl [HcR2]; · iexact HcR2
    isplitl [HO]; · iexact HO
    iexact HaR2
  iintro ⟨⟨%W3, HO⟩, Ho2, HzR2⟩
  iapply (wp_wait_dma m ρ K c (true, 3) (recvS 3) (sC 3) (oC 3) rfl rfl W3) $$ [HcR3 HO HaR3]
  · isplitr; · iexact HR
    isplitr; · iexact Hlev
    isplitl [HcR3]; · iexact HcR3
    isplitl [HO]; · iexact HO
    iexact HaR3
  iintro ⟨⟨%W4, HO⟩, Ho3, HzR3⟩
  iapply (wp_wait_dma m ρ K c (false, 0) (sendS 0) (oC 0) (sC 0) rfl rfl W4) $$ [HcS0 HO HaS0]
  · isplitr; · iexact HR
    isplitr; · iexact Hlev
    isplitl [HcS0]; · iexact HcS0
    isplitl [HO]; · iexact HO
    iexact HaS0
  iintro ⟨⟨%W5, HO⟩, Hs0, HzS0⟩
  iapply (wp_wait_dma m ρ K c (false, 1) (sendS 1) (oC 1) (sC 1) rfl rfl W5) $$ [HcS1 HO HaS1]
  · isplitr; · iexact HR
    isplitr; · iexact Hlev
    isplitl [HcS1]; · iexact HcS1
    isplitl [HO]; · iexact HO
    iexact HaS1
  iintro ⟨⟨%W6, HO⟩, Hs1, HzS1⟩
  iapply (wp_wait_dma m ρ K c (false, 2) (sendS 2) (oC 2) (sC 2) rfl rfl W6) $$ [HcS2 HO HaS2]
  · isplitr; · iexact HR
    isplitr; · iexact Hlev
    isplitl [HcS2]; · iexact HcS2
    isplitl [HO]; · iexact HO
    iexact HaS2
  iintro ⟨⟨%W7, HO⟩, Hs2, HzS2⟩
  iapply (wp_wait_dma m ρ K c (false, 3) (sendS 3) (oC 3) (sC 3) rfl rfl W7) $$ [HcS3 HO HaS3]
  · isplitr; · iexact HR
    isplitr; · iexact Hlev
    isplitl [HcS3]; · iexact HcS3
    isplitl [HO]; · iexact HO
    iexact HaS3
  iintro ⟨⟨%W8, HO⟩, Hs3, HzS3⟩
  -- the buffers whole again
  unfold pay
  rw [wp_ret]; imodintro
  iapply Hk
  unfold bodyPost Φ₁ Dat.owesAt Pipeline.owesWithin
  rw [show (dats m ρ 0 c).owed t₀.succ = 0 from rfl, bigSep_slots]
  isplitl [Hs0 Hs1 Hs2 Hs3 HzB HzS0 HzS1 HzS2 HzS3 HzR0 HzR1 HzR2 HzR3]
  · isplitl [Hs0 Hs1 Hs2 Hs3]
    · iexists (xBlk m ρ c)
      rw [sWhole_eq, bigSep_fin4]
      isplitl [Hs0]; · iexact Hs0
      isplitl [Hs1]; · iexact Hs1
      isplitl [Hs2] <;> iassumption
    isplitl [HzB]; · iexact HzB
    isplitl [HzS0]; · iexact HzS0
    isplitl [HzS1]; · iexact HzS1
    isplitl [HzS2]; · iexact HzS2
    isplitl [HzS3]; · iexact HzS3
    isplitl [HzR0]; · iexact HzR0
    isplitl [HzR1]; · iexact HzR1
    isplitl [HzR2] <;> iassumption
  isplitl [HO]
  · iexists W8
    isplitr; · ipureintro; exact fun _ _ => Or.inl trivial
    iexact HO
  isplitl [Hx]
  · iexists _; isplitr; · (ipureintro; rfl)
    unfold xPts; iexact Hx
  isplitl [Ht]
  · iexists _; isplitr; · (ipureintro; rfl)
    iexact Ht
  iexists (xBlk m ρ (other c)); isplitr; · (ipureintro; rfl)
  iapply (show iprop(oAt c 0 (xBlk m ρ (other c)) ∗ oAt c 1 (xBlk m ρ (other c)) ∗ oAt c 2 (xBlk m ρ (other c)) ∗ oAt c 3 (xBlk m ρ (other c)))
      ⊢ ((c : Thread nD τ).loc cc0_stg2_0 ↦{fullShare} xBlk m ρ (other c)) from
    Entails.of_eq ((oWhole_eq (F := F) c (xBlk m ρ (other c))).trans (bigSep_fin4 (F := F) _)).symm)
  isplitl [Ho0]; · iexact Ho0
  isplitl [Ho1]; · iexact Ho1
  isplitl [Ho2] <;> iassumption

def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

end Steps

set_option maxRecDepth 4000 in
/-- What the launch asks of the body on device `c`. -/
theorem body_obligation (hex : Exchanges m) (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hg⟩, Hcr, Hlev⟩, Hs⟩, Hrest⟩
  iapply (sound_body m ρ K hex c fun _ => bodyPost m ρ c)
  unfold bodyPre
  isplitr []
  · isplitl [Hg Hcr Hlev Hs]
    · isplitl [Hg]; · iexact Hg
      isplitl [Hcr]; · iexact Hcr
      isplitl [Hlev]; · iexact Hlev
      iexact Hs
    iexact Hrest
  · iintro H; iexact H

end Cert.Permute

end
-- ==== Proof.Launch.lean ====
/-
# The exchange: the launch, and the run of the whole mesh

The cells' invariants are made for all devices at once, since each is opened by two devices; the payment tokens are dealt
to the devices that pay; the launch's credit becomes the credit tokens of the barrier wait and of the four receive waits.
`run_exchange` is the run: every execution ends, with each device's result array holding the other device's block of `x`
and every counter at zero.
-/
module

public import proofs.«01_k».proof.Proof.Body
public import Idealize.ShloMosaic.Lib.Pipeline.CollectiveSegs

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores at launch -/

/-- The send and receive semaphores are the kernel's own, apart from the staging copies'; -/
theorem ownSemFacts : Pipeline.OwnSemFacts cfg0.spec ownSem := by decide

omit [FloatOps F] in
theorem ownSems0_eq (c : Dev nD) : (Pipeline.ownSems0 (Ix := Unit) (Name := ℕ) (U := UU) (Lvl := ℕ) (Val := Elt F) (τ := τ) ownSem c : sProp 𝕄)
    = iprop(semVal (cell c (some (false, 0))) 0 ∗ semVal (cell c (some (false, 1))) 0 ∗ semVal (cell c (some (false, 2))) 0 ∗ semVal (cell c (some (false, 3))) 0
        ∗ semVal (cell c (some (true, 0))) 0 ∗ semVal (cell c (some (true, 1))) 0 ∗ semVal (cell c (some (true, 2))) 0 ∗ semVal (cell c (some (true, 3))) 0) := by
  rw [Pipeline.ownSems0_eq_of_list c ownSem [(false, 0), (false, 1), (false, 2), (false, 3), (true, 0), (true, 1), (true, 2), (true, 3)]
    (by decide) (by decide)]
  rfl
omit [FloatOps F] in
/-- the barrier semaphore is the one that is not. -/
theorem unscopedSems0_eq (c : Dev nD) : (unscopedSems0 c : sProp 𝕄) = semVal (cell c none) 0 := by
  unfold unscopedSems0; rw [bigSep_eq_bigSepL_of_eq [SemLoc.reg barS] (by decide) (by decide)]; rfl

omit [FloatOps F] in
/-- Together they are the nine counters of the exchange. -/
theorem sems0_eq (c : Dev nD) :
    iprop(unscopedSems0 c ∗ Pipeline.ownSems0 (Ix := Unit) (Name := ℕ) (U := UU) (Lvl := ℕ) (Val := Elt F) (τ := τ) ownSem c)
      = (bigSep Finset.univ fun s : Slot => semVal (cell c s) 0 : sProp 𝕄) := by
  rw [ownSems0_eq, unscopedSems0_eq, bigSep_slots]

theorem share_eq (c : Dev nD) (w : Fin cfg0.W) : (dats m ρ 0 c).share w = fullShare := by unfold Dat.share; split <;> rfl

/-! ## The cells and the payment tokens -/

def allCells : Finset (GSem nD τ sig) := Finset.univ.map ⟨fun x : Dev nD × Slot => cell x.1 x.2, cell_injective⟩
def allToks : Finset (GSem nD τ sig × ℕ × Unit) :=
  Finset.univ.map ⟨fun x : Dev nD × Slot => (cell x.1 x.2, 0, ()), fun _ _ h => cell_injective (congrArg Prod.fst h)⟩

def u₀ : UU := (initOf (Pipeline.cells cfgs cellOf_inj) (Pipeline.launchToks cfgs cellOf_inj), initOf allCells allToks)

/-- What the launch deals to device `c`: its cells' states, its positions, its reached marks, its cells' tokens. -/
def G (c : Dev nD) : sProp 𝕄 :=
  iprop((bigSep Finset.univ fun s : Slot => roundState ER (sched m ρ) (cell c s) 0)
    ∗ posns c ∗ (bigSep Finset.univ fun s : Slot => reached ER (cell c s) 0) ∗ bigSep Finset.univ fun s : Slot => dutyTok ER (cell c s) 0 ())
/-- What the launch makes of it for the whole mesh. -/
def G' (c : Dev nD) : sProp 𝕄 := iprop(∃ K, records m ρ K ∗ posns c ∗ tokens c)

omit [FloatOps F] in
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun s : Slot => Φ (cell c s) := by
    unfold allCells; rw [bigSep_map, bigSep_univ_prod]; rfl
  have hT : bigSep allToks (fun x => (dutyTok ER x.1 x.2.1 x.2.2 : sProp 𝕄))
      = bigSep Finset.univ fun c : Dev nD => bigSep Finset.univ fun s : Slot => dutyTok ER (cell c s) 0 () := by
    unfold allToks; rw [bigSep_map, bigSep_univ_prod]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns; simp only [bigSep_sep']
  isplitl [Hst']; · iexact Hst'
  isplitl [Hat']; · iexact Hat'
  isplitl [Hr'] <;> iassumption

omit [FloatOps F] in
/-- A device's counters at zero and its cells' states become its cells' invariants. -/
theorem core_alloc (c : Dev nD) :
    iprop(Pipeline.ownSems0 (Ix := Unit) (Name := ℕ) (U := UU) (Lvl := ℕ) (Val := Elt F) (τ := τ) ownSem c ∗ unscopedSems0 c ∗ G m ρ c)
      ⊢ |={Set.univ}=> iprop((bigSep Finset.univ fun s : Slot => iprop(∃ κ : ℕ, cellInv ER (sched m ρ) κ (cell c s)))
          ∗ posns c ∗ (bigSep Finset.univ fun s : Slot => reached ER (cell c s) 0) ∗ bigSep Finset.univ fun s : Slot => dutyTok ER (cell c s) 0 ()) := by
  unfold G
  iintro ⟨Hos, Hus, Hst, Hrest⟩
  ihave Hv := (Entails.of_eq (sems0_eq (F := F) c)) $$ [Hos Hus]
  · isplitl [Hus] <;> iassumption
  imod (show iprop((bigSep Finset.univ fun s : Slot => semVal (cell c s) 0) ∗ bigSep Finset.univ fun s : Slot => roundState ER (sched m ρ) (cell c s) 0)
      ⊢ (|={Set.univ}=> bigSep Finset.univ fun s : Slot => iprop(∃ κ : ℕ, cellInv ER (sched m ρ) κ (cell c s)) : sProp 𝕄) from by
        rw [← bigSep_sep']
        exact (bigSep_mono fun s _ => (Rounds.body_intro ER (sched m ρ) (cell c s)).trans inv_alloc).trans (bigSep_fupd _ _)) $$ [Hv Hst] with Hinv
  · isplitl [Hv] <;> iassumption
  imodintro
  isplitl [Hinv]; · iexact Hinv
  iexact Hrest

/-- Each payment's token goes from the device whose cell it is to the device that pays it. -/
def payEquiv : Dev nD × Slot ≃ Dev nD × Slot :=
  ⟨fun x => (payee x.1 x.2, x.2), fun x => (payee x.1 x.2, x.2), fun x => by simp only [payee_payee], fun x => by simp only [payee_payee]⟩

omit [FloatOps F] in
theorem deal_tokens :
    (bigSep Finset.univ fun c : Dev nD => bigSep Finset.univ fun s : Slot => (dutyTok ER (cell c s) 0 () : sProp 𝕄)) = bigSep Finset.univ fun c : Dev nD => tokens c := by
  unfold tokens
  rw [← bigSep_univ_prod (fun x : Dev nD × Slot => (dutyTok ER (cell x.1 x.2) 0 () : sProp 𝕄)),
    ← bigSep_univ_prod (fun x : Dev nD × Slot => (dutyTok ER (cell (payee x.1 x.2) x.2) 0 () : sProp 𝕄)),
    bigSep_univ_equiv payEquiv (fun x : Dev nD × Slot => (dutyTok ER (cell x.1 x.2) 0 () : sProp 𝕄))]
  rfl

omit [FloatOps F] in
/-- What everybody may use goes to every device beside what is that device's own. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem regroup :
    (bigSep Finset.univ fun c : Dev nD => iprop((bigSep Finset.univ fun s : Slot => iprop(∃ κ : ℕ, cellInv ER (sched m ρ) κ (cell c s)))
          ∗ posns c ∗ (bigSep Finset.univ fun s : Slot => reached ER (cell c s) 0) ∗ bigSep Finset.univ fun s : Slot => dutyTok ER (cell c s) 0 ()) : sProp 𝕄)
      ⊢ bigSep Finset.univ (G' m ρ) := by
  rw [bigSep_sep', bigSep_sep', bigSep_sep', deal_tokens,
    ← bigSep_univ_prod (fun x : Dev nD × Slot => iprop(∃ κ : ℕ, cellInv ER (sched m ρ) κ (cell x.1 x.2))),
    ← bigSep_univ_prod (fun x : Dev nD × Slot => (reached ER (cell x.1 x.2) 0 : sProp 𝕄))]
  iintro ⟨HI, Hat, #HR, Htok⟩
  ihave HK := (BI.bigSep_exists_pi Finset.univ (fun (x : Dev nD × Slot) (κ : ℕ) => (cellInv ER (sched m ρ) κ (cell x.1 x.2) : sProp 𝕄))) $$ HI
  icases HK with ⟨%K, #HI⟩
  iapply (share_out (R := records m ρ K) (Φ := fun c => iprop(posns c ∗ tokens c)) fun c => by
    unfold G'; iintro H; iexists K; iexact H)
  isplitr
  · unfold records; isplitl; · iexact HI
    iexact HR
  · rw [bigSep_sep']
    isplitl [Hat] <;> iassumption

omit [FloatOps F] in
theorem glob : (bigSep Finset.univ fun c => iprop(Pipeline.ownSems0 (Ix := Unit) (Name := ℕ) (U := UU) (Lvl := ℕ) (Val := Elt F) (τ := τ) ownSem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

omit [FloatOps F] in
/-- Each device owes each of five cells of the other device one payment, so each device gets the five credit tokens. -/
theorem creds (c : Dev nD) : (Pipeline.launchCred O₀ c : sProp 𝕄) ⊢ credits c := by
  have hR (k : Fin 4) : (Pipeline.launchCred (fun d => dueR d k) c : sProp 𝕄) ⊢ cred (tallyAt (cell c (some (true, k))) () N) :=
    Pipeline.launchCred_tallyAt (semOf (some (true, k))) other other other_other other_other () N c
  have hB : (Pipeline.launchCred (fun d => dueB d) c : sProp 𝕄) ⊢ cred (tallyAt (cell c none) () 1) :=
    Pipeline.launchCred_tallyAt (semOf none) other other other_other other_other () 1 c
  rw [show (O₀ : Dev nD → CellTallies nD τ sig Unit) = fun d => dueR d 3 + dueR d 2 + dueR d 1 + dueR d 0 + dueB d from rfl,
    Pipeline.launchCred_add, Pipeline.launchCred_add, Pipeline.launchCred_add, Pipeline.launchCred_add]
  unfold credits
  rw [bigSep_fin4]
  iintro ⟨⟨⟨⟨H3, H2⟩, H1⟩, H0⟩, HB⟩
  isplitl [HB]; · iapply hB; iexact HB
  isplitl [H0]; · iapply (hR 0); iexact H0
  isplitl [H1]; · iapply (hR 1); iexact H1
  isplitl [H2]; · iapply (hR 2); iexact H2
  iapply (hR 3); iexact H3

/-! ## Into the body and out of it -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sWhole
  iintro ⟨Hs, -, Hr⟩
  isplitl [Hs] <;> iassumption

theorem phi1_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ c from rfl, scopedRest0_eq]
  unfold Φ₁ sWhole
  rw [← sems0_eq]
  iintro ⟨Hr, HB, HO⟩
  isplitl [HB]; · iexact HB
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
/-- From any memory whose tables say to exchange, with every counter at zero: every execution of the four devices ends, in
    a state that has every window's array as the run computes it and every counter at zero. -/
theorem run_arrays (hex : Exchanges m) : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hex) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Permute

end
-- ==== Proof.Final.lean ====
/-
# The arrays' contents

Each of the kernel's three windows is its whole array, so a window's block is its array, and the result array after the
run is what the body leaves in the staged result block.
-/
module

public import proofs.«01_k».proof.Proof.Protocol

@[expose] public section

noncomputable section

namespace Cert.Permute

open Cert.KernelIdeal Cert.KernelIdeal.Gen

open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

omit [FloatOps F] in
/-- Reading the block of the `x` window of an array of `x` gives the array; -/
theorem read_x (f : Block F) : (win0_0.blk (0 : Fin 1)).view.read (Elt F) f = f :=
  funext fun i => congrArg f (funext fun a => Fin.ext (by fin_cases a <;> exact (Nat.zero_add _).trans (Nat.one_mul _)))
omit [FloatOps F] in
/-- and so for the result's window. -/
theorem read_out (f : Block F) (t : Fin cfg0.N) : ((cfg0.win (2 : Fin 3)).blk t).view.read (Elt F) f = f :=
  funext fun i => congrArg f (funext fun a => Fin.ext (by fin_cases a <;> exact (Nat.zero_add _).trans (Nat.one_mul _)))

/-- Device `c`'s block of `x` is its array `x` at launch. -/
theorem xBlk_eq (c : Dev nD) : xBlk m ρ c = m ((c : Thread nD τ).loc main_arg0) := read_x _

/-- Every element of the result array is in the result's window. -/
theorem cover_out (t : Fin cfg0.N) (i : S1x512x512.Idx) : i ∈ ((cfg0.win (2 : Fin 3)).blk t).view.set := by
  have h := ((cfg0.win (2 : Fin 3)).blk t).view.emb_mem_set i
  have e : ((cfg0.win (2 : Fin 3)).blk t).view.emb i = i :=
    funext fun a => Fin.ext (by fin_cases a <;> exact (Nat.zero_add _).trans (Nat.one_mul _))
  exact e ▸ h

/-- The result array after the run holds what the body left in the staged result block. -/
theorem out_final {c : Dev nD} (dat : Dat τ (Elt F) Unit ℕ UU ℕ cfg0 c) (B : Block F) (h : ∀ t, dat.after (2 : Fin 3) t = B) :
    dat.arrAt (2 : Fin 3) cfg0.N = B :=
  dat.arrAt_eq_of_cover (2 : Fin 3) B (fun t _ => (h t).trans (read_out B t).symm) fun i => ⟨t₀, rfl, cover_out t₀ i⟩

end Cert.Permute

end
-- ==== Proof.Stay.lean ====
/-
# The case without communication

Every table sends every column to itself. The body on a device reads its own column from the table, copies its block of
`x` to the result block and neither signals nor waits: no cell, no payment, nothing owed. The run leaves each device's
result array holding the device's own block of `x`, and every counter at zero.
-/
module

public import proofs.«01_k».proof.Proof.Launch
public import proofs.«01_k».proof.Proof.Final

@[expose] public section

noncomputable section

namespace Cert.Permute.Stay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The windows' data -/

/-- What a device holds beside the windows, before the body and after it: its counters at zero and the send buffer. -/
def idle (c : Dev nD) : sProp 𝕄 := iprop((∃ f, sWhole c f) ∗ bigSep Finset.univ fun s : Slot => semVal (cell c s) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xBlk m ρ c
    | ⟨1, _⟩ => tBlk m ρ c
    | ⟨2, _⟩ => xBlk m ρ c
  Φ _ := idle c
  q _ := fullShare
  owed _ := 0

theorem share_eq (c : Dev nD) (w : Fin cfg0.W) : (dats m ρ 0 c).share w = fullShare := by unfold Dat.share; split <;> rfl

/-! ## The body -/

def bodyPre (c : Dev nD) : sProp 𝕄 :=
  iprop(idle c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(idle c ∗ (dats m ρ 0 c).owesAt () t₀.succ ∗ stg c cc0_stg0_0 (xBlk m ρ c) ∗ stg c cc0_stg1_0 (tBlk m ρ c)
    ∗ stg c cc0_stg2_0 (xBlk m ρ c))

theorem zeros : (![0, 0, 0] : Fin 3 → ℕ) = fun _ => 0 := by funext a; fin_cases a <;> rfl

/-- The whole of the staged `x` stored over the whole of the result block leaves what `x` holds. -/
theorem copied_block (g f : Block F) :
    (oM.access (Rect.unit (s := S1x512x512) ![0, 0, 0] S1x512x512.size inb_S1x512x512_S1x512x512_0_0_0) : View sig .tc _ _ _).write (Elt F) g
      (xM.view.readAt (Elt F) (Rect.unit (s := S1x512x512) ![0, 0, 0] S1x512x512.size inb_S1x512x512_S1x512x512_0_0_0).toLoadRect f) Finset.univ = f :=
  (Memref.write_access_unit_zero_univ (Elt F) cc0_stg2_0 zeros _ _ _).trans (Memref.readAt_unit_zero (Elt F) cc0_stg0_0 zeros _ _)

set_option maxHeartbeats 4000000 in
/-- The body run from `bodyPre` to `bodyPost`: the table says to stay, so the device copies its block and is done. -/
theorem sound_body (hst : Stays m) (c : Dev nD) :
    bodyPre m ρ c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2)
          (fun _ => bodyPost m ρ c) := by
  have hw : wordAt (F := F) c (tBlk m ρ c) = BitVec.ofNat 32 (c.val % 2) := (wordAt_tBlk m ρ c).trans (hst c)
  simp only [cc0_body_eq_skeleton]; unfold cc0_body_skel
  simp only [smemLoad, smemLoadElt, Prog.lift, Prog.bind_op, Prog.bind_ret, Prog.pure_eq_ret, Prog.bind_assoc, wp_deviceId]
  unfold bodyPre
  iintro ⟨HI, Ho, ⟨%d0, %g0, %hg0, Hx⟩, ⟨%d1, %g1, %hg1, Ht⟩, ⟨%d2, %g2, %hg2, Hout⟩⟩
  have hx : g0 = xBlk m ρ c := by rw [hg0]; unfold Dat.before; rw [if_pos (fetch_x t₀)]; rfl
  have ht : g1 = tBlk m ρ c := by rw [hg1]; unfold Dat.before; rw [if_pos (fetch_t t₀)]; rfl
  subst hx ht
  iapply (wp_load_rect 𝒱₀ (c : Thread nD τ) none Set.univ (m := tM) (r := rT c) (Finset.subset_univ _)) $$ Ht; iintro Ht
  have hchk := chk_self c _ hw
  have hcond := cond_self c _ hw
  have hloc := localCond_self c _ hw
  simp only [wp_assume_of _ _ _ _ (d := k0_chk1.dec _ _) hchk]
  rw [if_pos hloc, dif_neg hcond]
  simp only [Prog.lift, Prog.bind_op, Prog.bind_ret, Prog.pure_eq_ret, Prog.bind_assoc, pay1_eq]
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := Rect.unit (s := S1x512x512) ![0, 0, 0] S1x512x512.size inb_S1x512x512_S1x512x512_0_0_0)
    (Mk := Finset.univ) (Finset.subset_univ _)) $$ Hout; iintro Hout
  ihave Hout := (Entails.of_eq (congrArg (fun f => (((c : Thread nD τ).loc cc0_stg2_0) ↦{fullShare} f : sProp 𝕄)) (copied_block g2 (xBlk m ρ c)))) $$ Hout
  rw [wp_ret]; imodintro
  unfold bodyPost
  isplitl [HI]; · iexact HI
  isplitl [Ho]; · iexact Ho
  isplitl [Hx]
  · iexists _; isplitr; · (ipureintro; rfl)
    iexact Hx
  isplitl [Ht]
  · iexists _; isplitr; · (ipureintro; rfl)
    iexact Ht
  iexists _; isplitr; · (ipureintro; rfl)
  iexact Hout

set_option maxRecDepth 4000 in
/-- What the launch asks of the body on device `c`. -/
theorem body_obligation (hst : Stays m) (c : Dev nD) : BodyObligation (dats (F := F) m ρ 0 c) (defs₀ (F := F)) 𝒱₀ () Set.univ := fun t => by
  rw [fin_N t]
  rw [bigSep_W, bigSep_W]
  simp only [owns_whole_eq]
  exact sound_body m ρ hst c

/-! ## The launch -/

/-- The state that each device starts from: the barrier counter at zero. -/
def start (c : Dev nD) : sProp 𝕄 := iprop(unscopedSems0 c ∗ Pipeline.ownSems0 ownSem c)

omit [FloatOps F] in
theorem glob : (bigSep Finset.univ fun c => iprop(Pipeline.ownSems0 (Ix := Unit) (Name := ℕ) (U := UU) (Lvl := ℕ) (Val := Elt F) (τ := τ) ownSem c ∗ unscopedSems0 c ∗ emp) : sProp 𝕄)
    ⊢ |={Set.univ}=> bigSep Finset.univ (start (F := F)) := by
  have h (c : Dev nD) : iprop(Pipeline.ownSems0 (Ix := Unit) (Name := ℕ) (U := UU) (Lvl := ℕ) (Val := Elt F) (τ := τ) ownSem c ∗ unscopedSems0 c ∗ emp) ⊢ start (F := F) c := by
    unfold start
    iintro ⟨Hos, Hus, -⟩
    isplitl [Hus] <;> iassumption
  exact BIBase.Entails.trans (bigSep_mono fun c _ => h c) fupd_intro

omit [FloatOps F] in
theorem start_intro (c : Dev nD) :
    iprop(Pipeline.unscopedRestP Pipeline.Prefetch.none cfg0.spec c (fun b => m ((c : Thread nD τ).loc b)) ∗ levAts L lv
        ∗ Pipeline.launchCred (fun _ => (0 : CellTallies nD τ sig Unit)) c ∗ prngReg c (ρ c) ∗ start c)
      ⊢ |={Set.univ}=> iprop(start (F := F) c ∗ emp) := by
  iintro ⟨-, -, -, -, HG⟩
  imodintro
  isplitl
  · iexact HG
  · iempintro

theorem phi0_intro (c : Dev nD) :
    iprop(start c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = idle c from rfl, scopedRest0_eq]
  unfold idle start sWhole
  rw [sems0_eq]
  iintro ⟨Hs, -, Hr⟩
  isplitl [Hr] <;> iassumption

theorem phi1_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = idle c from rfl, scopedRest0_eq]
  unfold idle sWhole
  rw [← sems0_eq]
  iintro ⟨Hr, HB, HO⟩
  isplitl [HB]; · iexact HB
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (Or.inr rfl)

/-! ## The run -/

set_option maxRecDepth 8000 in
/-- From any memory whose tables say to stay, with every counter at zero: every execution of the four devices ends, in a
    state that has every window's array as the run computes it and every counter at zero. -/
theorem run_arrays (hst : Stays m) : θ_run defs (onTc (τ := τ) (main (F := F))) (s₀ m ρ)
    (fun r => (∀ c : Dev nD, ∀ w : Fin cfg0.W, r.2.mem ((cfg0.win w).arr.view.loc (c : Thread nD τ)) = (dats m ρ 0 c).arrAt w cfg0.N)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hst) (hne := fun w => by fin_cases w <;> exact Nat.succ_pos _) (harr := arr_whole0) (hstage := stage_whole0) (hshare := share_eq m ρ)
    (hdistinct := winFacts0.arr_inj)
    (O₀ := fun _ => 0) (howed₀ := fun _ => rfl) (howedN := fun _ => rfl)
    (L := L) (lv := lv) (hL := L_of_ne) (hwaits := waits m ρ)
    (G := fun _ => iprop(emp)) (G' := start) (u₀ := u₀)
    (hu₀ := by
      unfold u₀
      iintro Hu
      ihave H := (ownU_pair _ _) $$ Hu
      icases H with ⟨HP, -⟩
      imodintro
      isplitl [HP]; · iassumption
      iapply (Entails.of_eq (bigSep_emp_const (Finset.univ : Finset (Dev nD))).symm)
      iempintro)
    (hglob := glob)
    (hA := fun _ _ => rfl) (hpf := fun _ k => k.elim0)
    (X := start) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Permute.Stay

end
-- ==== Proof.Runs.lean ====
/-
# The two runs of the kernel, read at its three arrays

Under tables that exchange, the result array of each device ends at the other device's block of `x`; under tables that
stay, at the device's own. In both, `x` and the table are unchanged and every counter is zero.
-/
module

public import proofs.«01_k».proof.Proof.Stay

@[expose] public section

noncomputable section

namespace Cert.Permute

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- What a run of the kernel ends with, when device `c`'s result is the block of `x` that device `from' c` held. -/
def Moved (from' : Dev nD → Dev nD) (s : MemSt nD τ sig (Elt F)) : Prop :=
  (∀ c : Dev nD, s.mem ((c.tc : Thread nD τ).loc main_v1) = m ((from' c : Thread nD τ).loc main_arg0)
    ∧ s.mem ((c.tc : Thread nD τ).loc main_arg0) = m ((c.tc : Thread nD τ).loc main_arg0)
    ∧ s.mem ((c.tc : Thread nD τ).loc main_arg1) = m ((c.tc : Thread nD τ).loc main_arg1))
  ∧ s.sem = fun _ => 0

/-- Tables that exchange: the result of each device is the block of the other device of its row. -/
theorem run_exchange (hex : Exchanges m) : θ_run defs (onTc (τ := τ) (main (F := F))) ⟨m, fun _ => 0, ρ⟩ (fun r => Moved m other r.2) :=
  (θ_run defs _ _).mono (fun _ h => ⟨fun c =>
    ⟨(h.1 c (2 : Fin 3)).trans ((out_final (dats m ρ 0 c) (xBlk m ρ (other c)) fun _ => rfl).trans (xBlk_eq m ρ (other c))),
      (h.1 c (0 : Fin 3)).trans ((dats m ρ 0 c).arrAt_in (0 : Fin 3) rfl _),
      (h.1 c (1 : Fin 3)).trans ((dats m ρ 0 c).arrAt_in (1 : Fin 3) rfl _)⟩, h.2⟩) (run_arrays m ρ hex)

/-- Tables that stay: the result of each device is its own block. -/
theorem run_stay (hst : Stays m) : θ_run defs (onTc (τ := τ) (main (F := F))) ⟨m, fun _ => 0, ρ⟩ (fun r => Moved m id r.2) :=
  (θ_run defs _ _).mono (fun _ h => ⟨fun c =>
    ⟨(h.1 c (2 : Fin 3)).trans ((out_final (Stay.dats m ρ 0 c) (xBlk m ρ c) fun _ => rfl).trans (xBlk_eq m ρ c)),
      (h.1 c (0 : Fin 3)).trans ((Stay.dats m ρ 0 c).arrAt_in (0 : Fin 3) rfl _),
      (h.1 c (1 : Fin 3)).trans ((Stay.dats m ρ 0 c).arrAt_in (1 : Fin 3) rfl _)⟩, h.2⟩) (Stay.run_arrays m ρ hst)

end Cert.Permute

end
-- ==== Proof.RefValue.lean ====
/-
# What the reference computes

The reference takes the rows of `x` in the order of `argsort pi` and widens and narrows the result again, which at the
ideal instance changes nothing. For the two permutations of two columns, `argsort` is evaluated: the table that exchanges
gives `x` with its two rows exchanged, the table that stays gives `x`. A device's block of the first is the block of `x`
that the other device of its row holds.
-/
module

public import proofs.«01_k».proof.Proof.Chunks
public import proofs.«01_k».proof.Proof.Gen.ReferenceIdeal.Run
public import proofs.«01_k».proof.Proof.Gen.Pre_exchanges_Kernel
public import proofs.«01_k».proof.Proof.Gen.Pre_stays_Kernel
public import Idealize.ShloMosaic.Lib.Layout
public import Idealize.ShloMosaic.Lib.WordCmp
public import Idealize.ShloMosaic.PureOps.Ideal

@[expose] public section

noncomputable section

namespace Cert.Permute.Ref

open Cert.ReferenceIdeal Cert.ReferenceIdeal.Gen

open Idealize.ShloMosaic
open Idealize.ShloMosaic.TcCoe
open Idealize.SL.Sem

variable {F : FTy → Type} [FloatOps F]

/-! ## The two tables -/

/-- The table that exchanges the columns, `[1, 0]`, and the table that keeps them, `[0, 1]`. -/
def swapTable : IVec S2 32 := fun i => BitVec.ofNat 32 (1 - (i 0).val)
def keepTable : IVec S2 32 := fun i => BitVec.ofNat 32 (i 0).val

theorem word_eq {a b : BitVec 32} (h : IntOp.cmpi .eq a b = 1#1) : a = b := by
  rw [WordCmp.cmpi_eq_eq] at h
  by_contra hne
  rw [decide_eq_false hne] at h
  exact absurd h (by decide)

/-- The precondition `exchanges` says that the table is the first one; -/
theorem table_of_exchanges (x : FVec F Cert.Pre_exchanges_Kernel.S1x512x512 .bf16) (t : IVec S2 32)
    (h : Cert.Pre_exchanges_Kernel.fn (F := F) x t = fun _ => 1#1) : t = swapTable := by
  have closed : ∀ i : S2.Idx, subi (broadcastInDim S2 ![] Cert.Pre_exchanges_Kernel.Facts.bcast_S_S2 (constantI S_ 32 1#32)) (iotaInDim S2 32 0) i = swapTable i := by decide
  funext i
  exact (word_eq (congrFun h i)).trans (closed i)

/-- the precondition `stays` that it is the second. -/
theorem table_of_stays (x : FVec F Cert.Pre_stays_Kernel.S1x512x512 .bf16) (t : IVec S2 32)
    (h : Cert.Pre_stays_Kernel.fn (F := F) x t = fun _ => 1#1) : t = keepTable := by
  funext i
  exact (word_eq (congrFun h i)).trans rfl

/-! ## The rows the reference takes -/

/-- `argsort` of a table. -/
abbrev order (t : IVec S2 32) : IVec S2 32 := (Host.sort2 S2 0 comparator_i32_i32_d0 t (iotaInDim S2 32 0)).2

/-- The start row of each row of the result, as the gather takes it: negative entries are counted from the end. -/
abbrev startRows (t : IVec S2 32) : IVec S2x1 32 :=
  broadcastInDim S2x1 ![0] bcast_S2_S2x1_0 (select (cmpi .slt (order t) (broadcastInDim S2 ![] bcast_S_S2 (constantI S_ 32 0#32)))
    (addi (order t) (broadcastInDim S2 ![] bcast_S_S2 (constantI S_ 32 2#32))) (order t))

theorem startRows_swap (j : S2x1.Idx) : startRows swapTable j = BitVec.ofNat 32 (1 - (j 0).val) := by revert j; decide
theorem startRows_keep (j : S2x1.Idx) : startRows keepTable j = BitVec.ofNat 32 (j 0).val := by revert j; decide

/-- Row `r` of the array at the place of an element. -/
def atRow (r : Fin 2) (j : S2x512x512.Idx) : S2x512x512.Idx := fun a => match a with
  | ⟨0, _⟩ => r
  | ⟨1, h⟩ => j ⟨1, h⟩
  | ⟨2, h⟩ => j ⟨2, h⟩

/-- The row of an element, as a row of the start rows. -/
def startIx (j : S2x512x512.Idx) : S2x1.Idx := fun a => match a with
  | ⟨0, _⟩ => ⟨(j 0).val, (j 0).isLt⟩
  | ⟨1, _⟩ => ⟨0, Nat.one_pos⟩

abbrev rows := gather_S2x512x512_S2x1_S2x512x512_12_0_n_n_0_1_1512512

/-- The gather takes row `r` of `x` for an element whose start row is the word `r`. -/
theorem gather_at {α : Type} (x : S2x512x512.Idx → α) (s : IVec S2x1 32) (j : S2x512x512.Idx) (r : Fin 2)
    (h : s (startIx j) = BitVec.ofNat 32 r.val) : Host.gather rows x s j = x (atRow r j) := by
  unfold Host.gather
  refine congrArg x (funext fun a => Fin.ext ?_)
  show rows.start j s a + rows.batchCoord j a + rows.offCoord j a = _
  rw [GatherDims.batchCoord_eq_zero _ _ _ List.not_mem_nil]
  match a with
  | ⟨0, _⟩ =>
    show rows.start j s (0 : Fin 3) + 0 + rows.offCoord j (0 : Fin 3) = _
    rw [GatherDims.offCoord_eq_zero _ _ _ (fun h => ((GatherDims.mem_sKept _ _).mp h).1 (List.mem_singleton.mpr rfl))]
    unfold GatherDims.start
    rw [dif_pos (show (0 : Fin 3) ∈ rows.startIndexMap from List.mem_singleton.mpr rfl)]
    have hsi : rows.siIdx j ⟨List.idxOf (0 : Fin 3) rows.startIndexMap, List.idxOf_lt_length_iff.2 (List.mem_singleton.mpr rfl)⟩ = startIx j := by
      funext b; refine Fin.ext ?_
      match b with
      | ⟨0, _⟩ => rfl
      | ⟨1, _⟩ => rfl
    rw [hsi, h]
    show _ = r.val
    clear h hsi; revert r; decide
  | ⟨1, _⟩ =>
    show rows.start j s (1 : Fin 3) + 0 + rows.offCoord j (1 : Fin 3) = _
    unfold GatherDims.start
    rw [dif_neg (show (1 : Fin 3) ∉ rows.startIndexMap by decide)]
    exact Nat.zero_add _
  | ⟨2, _⟩ =>
    show rows.start j s (2 : Fin 3) + 0 + rows.offCoord j (2 : Fin 3) = _
    unfold GatherDims.start
    rw [dif_neg (show (2 : Fin 3) ∉ rows.startIndexMap by decide)]
    exact Nat.zero_add _

/-! ## The reference's result -/

/-- `x` with its two rows exchanged. -/
def swapRows (x : FVec Ideal S2x512x512 .bf16) : FVec Ideal S2x512x512 .bf16 :=
  fun j => x (atRow ⟨1 - (j 0).val, by omega⟩ j)

/-- The result the reference computes of `x` and the table `t`. -/
abbrev result (x : FVec Ideal S2x512x512 .bf16) (t : IVec S2 32) : FVec Ideal S2x512x512 .bf16 :=
  truncf .bf16 (extf .f32 (Host.gather rows x (startRows t)) bitsLt_bf16_f32) bitsLt_bf16_f32

theorem result_swap (x : FVec Ideal S2x512x512 .bf16) : result x swapTable = swapRows x :=
  funext fun j => gather_at x _ j ⟨1 - (j 0).val, by omega⟩ (startRows_swap _)
theorem result_keep (x : FVec Ideal S2x512x512 .bf16) : result x keepTable = x :=
  funext fun j => (gather_at x _ j (j 0) (startRows_keep _)).trans (congrArg x (funext fun a => by fin_cases a <;> rfl))

/-- The reference's run: the result is `result` of its arguments, the arguments are unchanged, every counter is zero. -/
theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v9) = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨h, sem_eq_zero_of_no_sems (by decide) r.2⟩) (Value.run m ρ)

/-! ## The devices' blocks -/

/-- Device `c`'s block of an array of shape `2 × 512 × 512`, as the claims name it. -/
abbrev part (c : Dev Cert.KernelIdeal.nD) (v : FVec Ideal S2x512x512 .bf16) : FVec Ideal Cert.KernelIdeal.S1x512x512 .bf16 :=
  Layout.blockN ⟨3, ![1, 512, 512]⟩ ⟨3, ![2, 512, 512]⟩ (Layout.meshBlock [2, 2] ![[1], [], []] c) v

/-- A device's block of the rows exchanged is the other device's block. -/
theorem part_swap (c : Dev Cert.KernelIdeal.nD) (v : FVec Ideal S2x512x512 .bf16) : part c (swapRows v) = part (other c) v := by
  have hc : ∀ c : Dev Cert.KernelIdeal.nD, Layout.meshLin [2, 2] (other c).val [1] = 1 - Layout.meshLin [2, 2] c.val [1] := by decide
  funext i
  refine congrArg v (funext fun a => Fin.ext ?_)
  have hi : (i 0).val = 0 := Nat.lt_one_iff.mp (i 0).isLt
  match a with
  | ⟨0, _⟩ =>
    show 1 - (Layout.meshLin [2, 2] c.val [1] * 1 + (i 0).val) = Layout.meshLin [2, 2] (other c).val [1] * 1 + (i 0).val
    rw [hc c, hi]; omega
  | ⟨1, _⟩ => rfl
  | ⟨2, _⟩ => rfl

end Cert.Permute.Ref

end
-- ==== Proof.lean ====
/-
# The kernel moves the blocks of `x` as the reference does

The kernel runs on a mesh of 2 × 2 devices. Each device holds one of the two blocks of `x`, the two devices of a row of the
mesh hold different ones, and the table says which device of the row a block goes to. There are two tables that permute two
columns; each has its own precondition, and under each of them the kernel ends with what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_exchanges_Kernel
public import proofs.«01_k».proof.Proof.Gen.Pre_stays_Kernel
public import proofs.«01_k».proof.Proof.Gen.Pre_exchanges_ReferenceIdeal
public import proofs.«01_k».proof.Proof.Gen.Pre_stays_ReferenceIdeal
public import proofs.«01_k».proof.Proof.Runs
public import proofs.«01_k».proof.Proof.RefValue
public import Idealize.ShloMosaic.Adequacy
public import Idealize.ShloMosaic.Init

@[expose] public section

noncomputable section

namespace Cert.Proof

open Idealize.ShloMosaic Idealize.SL.Sem Cert.Kernel
open Idealize.ShloMosaic.TcCoe

/-! ## The tables under the two preconditions -/

variable {F : FTy → Type} [FloatOps F]

/-- Where every device holds the table `[1, 0]`, every device's entry names the other device of its row; -/
theorem exchanges_of {m : (ℓ : Loc Cert.KernelIdeal.nD Cert.KernelIdeal.τ Cert.KernelIdeal.sig) → Buf (Elt F) ℓ}
    (h : ∀ c, Permute.tableOf m c = Permute.Ref.swapTable) : Permute.Exchanges m := fun c => by
  rw [h c]
  show BitVec.ofNat 32 (1 - (0 + c.val % 2)) = _
  rw [Nat.zero_add]

/-- where every device holds `[0, 1]`, every device's entry names itself. -/
theorem stays_of {m : (ℓ : Loc Cert.KernelIdeal.nD Cert.KernelIdeal.τ Cert.KernelIdeal.sig) → Buf (Elt F) ℓ}
    (h : ∀ c, Permute.tableOf m c = Permute.Ref.keepTable) : Permute.Stays m := fun c => by
  rw [h c]
  show BitVec.ofNat 32 (0 + c.val % 2) = _
  rw [Nat.zero_add]

/-! ## The frames -/

/-- A run that ends with the blocks moved leaves the arguments as they were and the counters at zero. -/
theorem frame_of {m : (ℓ : Loc Cert.KernelIdeal.nD Cert.KernelIdeal.τ Cert.KernelIdeal.sig) → Buf (Elt F) ℓ} {g : Dev Cert.KernelIdeal.nD → PrngReg}
    {f : Dev Cert.KernelIdeal.nD → Dev Cert.KernelIdeal.nD}
    (h : θ_run Cert.KernelIdeal.defs (onTc (τ := Cert.KernelIdeal.τ) (Cert.KernelIdeal.main (F := F))) ⟨m, fun _ => 0, g⟩ (fun r => Permute.Moved m f r.2)) :
    θ_run Cert.KernelIdeal.defs (onTc (τ := Cert.KernelIdeal.τ) (Cert.KernelIdeal.main (F := F))) ⟨m, fun _ => 0, g⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ r => ⟨fun c => (r.1 c).2, r.2⟩) h

/-- The two programs have the same text: their tables of bodies are one, -/
theorem bodies_eq : Cert.Kernel.defs₀ (F := F) = Cert.KernelIdeal.defs₀ (F := F) :=
  congrArg Defs.onTc (funext fun ℓ => funext fun a => match ℓ, a with
    | 0, (_, _) => rfl
    | ⟨_ + 1, h⟩, _ => absurd h (Nat.not_lt.2 (Nat.le_add_left _ _)))

/-- and so are their tables of calls. -/
theorem defs_eq : Cert.Kernel.defs (F := F) = Cert.KernelIdeal.defs (F := F) := congrArg (Pipeline.defs _) bodies_eq

/-- The kernel in machine words ends, with its arguments unchanged and every counter at zero, under `exchanges`; -/
theorem frame_kernel : Cert.quiescent_Kernel := fun m g h => by
  rw [defs_eq]
  exact frame_of (F := Bits) (Permute.run_exchange (F := Bits) m g (exchanges_of fun c => Permute.Ref.table_of_exchanges _ _ (h c)))

/-- and under `stays`. -/
theorem frame_kernel_stays : Cert.quiescent_Kernel_pre_stays_Kernel := fun m g h => by
  rw [defs_eq]
  exact frame_of (F := Bits) (Permute.run_stay (F := Bits) m g (stays_of fun c => Permute.Ref.table_of_stays _ _ (h c)))

/-- The kernel in real numbers does so under `exchanges`; -/
theorem frame_ideal : Cert.quiescent_KernelIdeal := fun m g h =>
  frame_of (Permute.run_exchange (F := Ideal) m g (exchanges_of fun c => Permute.Ref.table_of_exchanges _ _ (h c)))

/-- and under `stays`. -/
theorem frame_ideal_stays : Cert.quiescent_KernelIdeal_pre_stays_Kernel := fun m g h =>
  frame_of (Permute.run_stay (F := Ideal) m g (stays_of fun c => Permute.Ref.table_of_stays _ _ (h c)))

/-- The reference ends with its arguments unchanged, from any memory. -/
theorem frame_reference : Cert.quiescent_ReferenceIdeal := fun m g _ =>
  (θ_run Cert.ReferenceIdeal.defs _ _).mono (fun _ r => ⟨fun c => (r.1 c).2, r.2⟩) (Permute.Ref.run m g)

/-! ## The values -/

/-- Under `exchanges` each device's result is its block of the reference's result: `x` with its two rows exchanged. -/
theorem value_exchanges : Cert.algebraic_KernelIdeal_ReferenceIdeal := fun m g m' g' h hm => by
  have ht := fun c => Permute.Ref.table_of_exchanges _ _ (h c)
  refine ⟨Permute.Ref.swapRows (m' (((0 : Dev Cert.ReferenceIdeal.nD).tc : Thread Cert.ReferenceIdeal.nD Cert.ReferenceIdeal.τ).loc Cert.ReferenceIdeal.main_arg0)),
    (θ_run Cert.KernelIdeal.defs _ _).mono (fun _ r c => ⟨?_, (r.1 c).2⟩) (Permute.run_exchange (F := Ideal) m g (exchanges_of ht)),
    (θ_run Cert.ReferenceIdeal.defs _ _).mono (fun _ r => ⟨?_, (r.1 0).2⟩) (Permute.Ref.run m' g')⟩
  · exact (r.1 c).1.trans ((hm (Permute.other c)).1.trans (Permute.Ref.part_swap c _).symm)
  · exact (r.1 0).1.trans ((congrArg (Permute.Ref.result _) ((hm 0).2.symm.trans (ht 0))).trans (Permute.Ref.result_swap _))

/-- Under `stays` each device's result is its block of the reference's result: `x` itself. -/
theorem value_stays : Cert.algebraic_KernelIdeal_ReferenceIdeal_pre_stays_Kernel := fun m g m' g' h hm => by
  have ht := fun c => Permute.Ref.table_of_stays _ _ (h c)
  refine ⟨m' (((0 : Dev Cert.ReferenceIdeal.nD).tc : Thread Cert.ReferenceIdeal.nD Cert.ReferenceIdeal.τ).loc Cert.ReferenceIdeal.main_arg0),
    (θ_run Cert.KernelIdeal.defs _ _).mono (fun _ r c => ⟨(r.1 c).1.trans (hm c).1, (r.1 c).2⟩) (Permute.run_stay (F := Ideal) m g (stays_of ht)),
    (θ_run Cert.ReferenceIdeal.defs _ _).mono (fun _ r => ⟨?_, (r.1 0).2⟩) (Permute.Ref.run m' g')⟩
  exact (r.1 0).1.trans ((congrArg (Permute.Ref.result _) ((hm 0).2.symm.trans (ht 0))).trans (Permute.Ref.result_keep _))

/-! ## The claim -/

/-- The kernel's two programs and the reference end with their arguments unchanged, and the kernel's result is the
reference's, under each of the two permutations of the columns. -/
theorem claim : Cert.Claim := ⟨Cert.Kernel.Gen.facts, Cert.KernelIdeal.Gen.facts, Cert.ReferenceIdeal.Gen.facts, Cert.Pre_exchanges_Kernel.Gen.facts, Cert.Pre_stays_Kernel.Gen.facts, Cert.Pre_exchanges_ReferenceIdeal.Gen.facts, Cert.Pre_stays_ReferenceIdeal.Gen.facts,
  frame_kernel, frame_kernel_stays, frame_ideal, frame_ideal_stays, frame_reference, fun m g _ => frame_reference m g trivial,
  fun m g _ => frame_reference m g trivial, trivial, value_exchanges, value_stays⟩

end Cert.Proof

end
